-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_q_k [hPre_finite_q_k : Cert.Pre_finite_q_k.Facts] (m : (ℓ : Loc Cert.KernelIdeal.nD Cert.KernelIdeal.τ Cert.KernelIdeal.sig) → Buf (Elt Ideal) ℓ) : Prop :=
  ∀ c : Dev Cert.KernelIdeal.nD,
    (Cert.Pre_finite_q_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite_q_k.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_q_k [hPre_finite_q_k : Cert.Pre_finite_q_k.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_q_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite_q_k.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_q_k [hKernelIdeal : Cert.KernelIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_q_k m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_q_k [hReferenceIdeal : Cert.ReferenceIdeal.Facts] [hPre_finite_q_k : Cert.Pre_finite_q_k.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_q_k m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_q_k [hKernelIdeal : Cert.KernelIdeal.Facts] [hReferenceIdeal : Cert.ReferenceIdeal.Facts] [hPre_finite_q_k : Cert.Pre_finite_q_k.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_q_k m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v2) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v3) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v1) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v4)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v4) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v15) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite_q_k : Cert.Pre_finite_q_k.Facts),
    quiescent_Kernel (hKernel := hKernel)
    ∧ quiescent_KernelIdeal (hKernelIdeal := hKernelIdeal)
    ∧ quiescent_KernelIdeal_pre_finite_q_k (hKernelIdeal := hKernelIdeal) (hPre_finite_q_k := hPre_finite_q_k)
    ∧ quiescent_ReferenceIdeal (hReferenceIdeal := hReferenceIdeal)
    ∧ quiescent_ReferenceIdeal_pre_finite_q_k (hReferenceIdeal := hReferenceIdeal) (hPre_finite_q_k := hPre_finite_q_k)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite_q_k (hKernelIdeal := hKernelIdeal) (hReferenceIdeal := hReferenceIdeal) (hPre_finite_q_k := hPre_finite_q_k)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite_q_k.lean ====
abbrev S6x8192x8x128 : Shape := ⟨4, ![6, 8192, 8, 128]⟩
abbrev S6x8192x2x128 : Shape := ⟨4, ![6, 8192, 2, 128]⟩
abbrev S_ : Shape := ⟨0, ![]⟩

class Facts : Prop where
  bcast_S_S6x8192x8x128 : S_.BroadcastsInDim S6x8192x8x128 (![] : Fin 0 → Fin S6x8192x8x128.rank)
  bcast_S_S6x8192x2x128 : S_.BroadcastsInDim S6x8192x2x128 (![] : Fin 0 → Fin S6x8192x2x128.rank)

variable [Facts]

def fn {F : FTy → Type} [FloatOps F] (main_arg0 : FVec F S6x8192x8x128 .f32) (main_arg1 : FVec F S6x8192x2x128 .f32) (main_arg2 : FVec F S6x8192x2x128 .f32) : IVec S6x8192x8x128 1 × IVec S6x8192x2x128 1 :=
  let main_v0 : FVec F S6x8192x8x128 .f32 := Host.absf main_arg0
  let main_cst : FVec F S_ .f32 := constant S_ .f32 0x7F800000#32
  let main_v1 : FVec F S6x8192x8x128 .f32 := broadcastInDim S6x8192x8x128 ![] bcast_S_S6x8192x8x128 main_cst
  let main_v2 : IVec S6x8192x8x128 1 := cmpf .olt main_v0 main_v1
  let main_v3 : FVec F S6x8192x2x128 .f32 := Host.absf main_arg1
  let main_cst_0 : FVec F S_ .f32 := constant S_ .f32 0x7F800000#32
  let main_v4 : FVec F S6x8192x2x128 .f32 := broadcastInDim S6x8192x2x128 ![] bcast_S_S6x8192x2x128 main_cst_0
  let main_v5 : IVec S6x8192x2x128 1 := cmpf .olt main_v3 main_v4
  (main_v2, main_v5)
-- ==== Kernel.lean ====
abbrev S6x8192x8x128 : Shape := ⟨4, ![6, 8192, 8, 128]⟩
abbrev S6x8192x2x128 : Shape := ⟨4, ![6, 8192, 2, 128]⟩
abbrev S_ : Shape := ⟨0, ![]⟩
abbrev S49152x1024 : Shape := ⟨2, ![49152, 1024]⟩
abbrev S49152x256 : Shape := ⟨2, ![49152, 256]⟩
abbrev S49152x1280 : Shape := ⟨2, ![49152, 1280]⟩
abbrev S96x512x2x128 : Shape := ⟨4, ![96, 512, 2, 128]⟩
abbrev S96x2x128x512 : Shape := ⟨4, ![96, 2, 128, 512]⟩
abbrev S96x2x16x512 : Shape := ⟨4, ![96, 2, 16, 512]⟩
abbrev S96x2x144x512 : Shape := ⟨4, ![96, 2, 144, 512]⟩
abbrev S96x288x512 : Shape := ⟨3, ![96, 288, 512]⟩
abbrev S2048x512 : Shape := ⟨2, ![2048, 512]⟩
abbrev S8192x128 : Shape := ⟨2, ![8192, 128]⟩
abbrev S16x144x512 : Shape := ⟨3, ![16, 144, 512]⟩
abbrev S8x1024 : Shape := ⟨2, ![8, 1024]⟩
abbrev S144x1024 : Shape := ⟨2, ![144, 1024]⟩
abbrev S512x1024 : Shape := ⟨2, ![512, 1024]⟩
abbrev S256x128 : Shape := ⟨2, ![256, 128]⟩
abbrev S1024x128 : Shape := ⟨2, ![1024, 128]⟩
abbrev S512x128 : Shape := ⟨2, ![512, 128]⟩
abbrev S1024 : Shape := ⟨1, ![1024]⟩
abbrev S1x1024 : Shape := ⟨2, ![1, 1024]⟩
abbrev S1x144x512 : Shape := ⟨3, ![1, 144, 512]⟩
abbrev S144x512 : Shape := ⟨2, ![144, 512]⟩
abbrev S128x1024 : Shape := ⟨2, ![128, 1024]⟩

abbrev nBuf : Space → Nat
  | .hbm => 24
  | .vmem => 12
  | .smem => 0
  | _ => 0

abbrev bufTy : (tb : Table) → Fin (tcTables nBuf tb) → BufTy
  | .hbm, ⟨0, _⟩ => ⟨S6x8192x8x128, .f32⟩
  | .hbm, ⟨1, _⟩ => ⟨S6x8192x2x128, .f32⟩
  | .hbm, ⟨2, _⟩ => ⟨S6x8192x2x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S6x8192x8x128, .f32⟩
  | .hbm, ⟨11, _⟩ => ⟨S6x8192x8x128, .f32⟩
  | .hbm, ⟨12, _⟩ => ⟨S49152x1024, .f32⟩
  | .hbm, ⟨13, _⟩ => ⟨S49152x256, .f32⟩
  | .hbm, ⟨14, _⟩ => ⟨S49152x1280, .f32⟩
  | .hbm, ⟨15, _⟩ => ⟨S49152x1280, .bf16⟩
  | .hbm, ⟨16, _⟩ => ⟨S96x512x2x128, .f32⟩
  | .hbm, ⟨17, _⟩ => ⟨S96x2x128x512, .f32⟩
  | .hbm, ⟨18, _⟩ => ⟨S_, .f32⟩
  | .hbm, ⟨19, _⟩ => ⟨S96x2x16x512, .f32⟩
  | .hbm, ⟨20, _⟩ => ⟨S96x2x144x512, .f32⟩
  | .hbm, ⟨21, _⟩ => ⟨S96x288x512, .f32⟩
  | .hbm, ⟨22, _⟩ => ⟨S96x288x512, .bf16⟩
  | .hbm, ⟨23, _⟩ => ⟨S49152x1024, .bf16⟩
  | .local _ .vmem, ⟨0, _⟩ => ⟨S2048x512, .bf16⟩
  | .local _ .vmem, ⟨1, _⟩ => ⟨S2048x512, .bf16⟩
  | .local _ .vmem, ⟨2, _⟩ => ⟨S8192x128, .bf16⟩
  | .local _ .vmem, ⟨3, _⟩ => ⟨S8192x128, .bf16⟩
  | .local _ .vmem, ⟨4, _⟩ => ⟨S16x144x512, .bf16⟩
  | .local _ .vmem, ⟨5, _⟩ => ⟨S16x144x512, .bf16⟩
  | .local _ .vmem, ⟨6, _⟩ => ⟨S2048x512, .bf16⟩
  | .local _ .vmem, ⟨7, _⟩ => ⟨S2048x512, .bf16⟩
  | .local _ .vmem, ⟨8, _⟩ => ⟨S8x1024, .f32⟩
  | .local _ .vmem, ⟨9, _⟩ => ⟨S144x1024, .f32⟩
  | .local _ .vmem, ⟨10, _⟩ => ⟨S512x1024, .f32⟩
  | .local _ .vmem, ⟨11, _⟩ => ⟨S512x1024, .f32⟩
  | _, _ => ⟨S6x8192x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_cst_1 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_2 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![6, 2, 4], ![false, false, false]⟩

def k0_mult1 : BitVec 32 :=
  let c0_i32 : BitVec 32 := 0#32
  c0_i32
@[reducible] def k0_t1_loop : Scf.Loop 32 :=
  let c0_i32_21 : BitVec 32 := 0#32
  let c8_i32 : BitVec 32 := 8#32
  let v34 : BitVec 32 := Scalar.addi c0_i32_21 c8_i32
  let c1_i32 : BitVec 32 := 1#32
  ⟨c0_i32_21, v34, c1_i32⟩
def k0_mult2 (k0_t1 : Fin k0_t1_loop.trips) : BitVec 32 :=
  let c2_i32 : BitVec 32 := 2#32
  let c0_i32_21 : BitVec 32 := 0#32
  let c1_i32 : BitVec 32 := 1#32
  let arg11 : BitVec 32 := Scf.iv c0_i32_21 c1_i32 k0_t1
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  v298
def k0_off1 (k0_t1 : Fin k0_t1_loop.trips) : Fin 2 → Nat :=
  let c2_i32 : BitVec 32 := 2#32
  let c0_i32_21 : BitVec 32 := 0#32
  let c1_i32 : BitVec 32 := 1#32
  let arg11 : BitVec 32 := Scf.iv c0_i32_21 c1_i32 k0_t1
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  let v299 : BitVec 32 := v298
  let v300 : Index := Scalar.indexCast v299
  let c0_216 : Index := 0#32
  ![v300.toNat, 0]
def k0_off2 (k0_t1 : Fin k0_t1_loop.trips) : Fin 3 → Nat :=
  let c2_i32 : BitVec 32 := 2#32
  let c0_i32_21 : BitVec 32 := 0#32
  let c1_i32 : BitVec 32 := 1#32
  let arg11 : BitVec 32 := Scf.iv c0_i32_21 c1_i32 k0_t1
  let v296 : BitVec 32 := Scalar.muli c2_i32 arg11
  let v321 : Index := Scalar.indexCast v296
  let c0_227 : Index := 0#32
  let c0_228 : Index := 0#32
  ![v321.toNat, 0, 0]
def k0_mult3 (k0_t1 : Fin k0_t1_loop.trips) : BitVec 32 :=
  let c2_i32 : BitVec 32 := 2#32
  let c0_i32_21 : BitVec 32 := 0#32
  let c1_i32 : BitVec 32 := 1#32
  let arg11 : BitVec 32 := Scf.iv c0_i32_21 c1_i32 k0_t1
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  v338
def k0_off3 (k0_t1 : Fin k0_t1_loop.trips) : Fin 2 → Nat :=
  let c2_i32 : BitVec 32 := 2#32
  let c0_i32_21 : BitVec 32 := 0#32
  let c1_i32 : BitVec 32 := 1#32
  let arg11 : BitVec 32 := Scf.iv c0_i32_21 c1_i32 k0_t1
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  let v339 : BitVec 32 := v338
  let v340 : Index := Scalar.indexCast v339
  let c0_238 : Index := 0#32
  ![v340.toNat, 0]
def k0_off4 (k0_t1 : Fin k0_t1_loop.trips) : Fin 3 → Nat :=
  let c2_i32 : BitVec 32 := 2#32
  let c0_i32_21 : BitVec 32 := 0#32
  let c1_i32 : BitVec 32 := 1#32
  let arg11 : BitVec 32 := Scf.iv c0_i32_21 c1_i32 k0_t1
  let v296 : BitVec 32 := Scalar.muli c2_i32 arg11
  let c1_i32_242 : BitVec 32 := 1#32
  let v347 : BitVec 32 := Scalar.addi v296 c1_i32_242
  let v362 : Index := Scalar.indexCast v347
  let c0_250 : Index := 0#32
  let c0_251 : Index := 0#32
  ![v362.toNat, 0, 0]
@[reducible] def k0_t2_loop : Scf.Loop 32 :=
  let c0_i32_46 : BitVec 32 := 0#32
  let c8_i32_47 : BitVec 32 := 8#32
  let v70 : BitVec 32 := Scalar.addi c0_i32_46 c8_i32_47
  let c1_i32_48 : BitVec 32 := 1#32
  ⟨c0_i32_46, v70, c1_i32_48⟩
def k0_mult4 (k0_t2 : Fin k0_t2_loop.trips) : BitVec 32 :=
  let c2_i32 : BitVec 32 := 2#32
  let c0_i32_46 : BitVec 32 := 0#32
  let c1_i32_48 : BitVec 32 := 1#32
  let arg11 : BitVec 32 := Scf.iv c0_i32_46 c1_i32_48 k0_t2
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  v298
def k0_off5 (k0_t2 : Fin k0_t2_loop.trips) : Fin 2 → Nat :=
  let c2_i32 : BitVec 32 := 2#32
  let c0_i32_46 : BitVec 32 := 0#32
  let c1_i32_48 : BitVec 32 := 1#32
  let arg11 : BitVec 32 := Scf.iv c0_i32_46 c1_i32_48 k0_t2
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  let v299 : BitVec 32 := v298
  let v300 : Index := Scalar.indexCast v299
  let c0_216 : Index := 0#32
  ![v300.toNat, 0]
def k0_off6 (k0_t2 : Fin k0_t2_loop.trips) : Fin 3 → Nat :=
  let c2_i32 : BitVec 32 := 2#32
  let c0_i32_46 : BitVec 32 := 0#32
  let c1_i32_48 : BitVec 32 := 1#32
  let arg11 : BitVec 32 := Scf.iv c0_i32_46 c1_i32_48 k0_t2
  let v296 : BitVec 32 := Scalar.muli c2_i32 arg11
  let v321 : Index := Scalar.indexCast v296
  let c0_227 : Index := 0#32
  let c0_228 : Index := 0#32
  ![v321.toNat, 0, 0]
def k0_mult5 (k0_t2 : Fin k0_t2_loop.trips) : BitVec 32 :=
  let c2_i32 : BitVec 32 := 2#32
  let c0_i32_46 : BitVec 32 := 0#32
  let c1_i32_48 : BitVec 32 := 1#32
  let arg11 : BitVec 32 := Scf.iv c0_i32_46 c1_i32_48 k0_t2
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  v338
def k0_off7 (k0_t2 : Fin k0_t2_loop.trips) : Fin 2 → Nat :=
  let c2_i32 : BitVec 32 := 2#32
  let c0_i32_46 : BitVec 32 := 0#32
  let c1_i32_48 : BitVec 32 := 1#32
  let arg11 : BitVec 32 := Scf.iv c0_i32_46 c1_i32_48 k0_t2
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  let v339 : BitVec 32 := v338
  let v340 : Index := Scalar.indexCast v339
  let c0_238 : Index := 0#32
  ![v340.toNat, 0]
def k0_off8 (k0_t2 : Fin k0_t2_loop.trips) : Fin 3 → Nat :=
  let c2_i32 : BitVec 32 := 2#32
  let c0_i32_46 : BitVec 32 := 0#32
  let c1_i32_48 : BitVec 32 := 1#32
  let arg11 : BitVec 32 := Scf.iv c0_i32_46 c1_i32_48 k0_t2
  let v296 : BitVec 32 := Scalar.muli c2_i32 arg11
  let c1_i32_242 : BitVec 32 := 1#32
  let v347 : BitVec 32 := Scalar.addi v296 c1_i32_242
  let v362 : Index := Scalar.indexCast v347
  let c0_250 : Index := 0#32
  let c0_251 : Index := 0#32
  ![v362.toNat, 0, 0]
@[reducible] def k0_t3_loop : Scf.Loop 32 :=
  let c0_i32_73 : BitVec 32 := 0#32
  let c8_i32_74 : BitVec 32 := 8#32
  let v106 : BitVec 32 := Scalar.addi c0_i32_73 c8_i32_74
  let c1_i32_75 : BitVec 32 := 1#32
  ⟨c0_i32_73, v106, c1_i32_75⟩
def k0_mult6 (k0_t3 : Fin k0_t3_loop.trips) : BitVec 32 :=
  let c2_i32 : BitVec 32 := 2#32
  let c0_i32_73 : BitVec 32 := 0#32
  let c1_i32_75 : BitVec 32 := 1#32
  let arg11 : BitVec 32 := Scf.iv c0_i32_73 c1_i32_75 k0_t3
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  v298
def k0_off9 (k0_t3 : Fin k0_t3_loop.trips) : Fin 2 → Nat :=
  let c2_i32 : BitVec 32 := 2#32
  let c0_i32_73 : BitVec 32 := 0#32
  let c1_i32_75 : BitVec 32 := 1#32
  let arg11 : BitVec 32 := Scf.iv c0_i32_73 c1_i32_75 k0_t3
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  let v299 : BitVec 32 := v298
  let v300 : Index := Scalar.indexCast v299
  let c0_216 : Index := 0#32
  ![v300.toNat, 0]
def k0_off10 (k0_t3 : Fin k0_t3_loop.trips) : Fin 3 → Nat :=
  let c2_i32 : BitVec 32 := 2#32
  let c0_i32_73 : BitVec 32 := 0#32
  let c1_i32_75 : BitVec 32 := 1#32
  let arg11 : BitVec 32 := Scf.iv c0_i32_73 c1_i32_75 k0_t3
  let v296 : BitVec 32 := Scalar.muli c2_i32 arg11
  let v321 : Index := Scalar.indexCast v296
  let c0_227 : Index := 0#32
  let c0_228 : Index := 0#32
  ![v321.toNat, 0, 0]
def k0_mult7 (k0_t3 : Fin k0_t3_loop.trips) : BitVec 32 :=
  let c2_i32 : BitVec 32 := 2#32
  let c0_i32_73 : BitVec 32 := 0#32
  let c1_i32_75 : BitVec 32 := 1#32
  let arg11 : BitVec 32 := Scf.iv c0_i32_73 c1_i32_75 k0_t3
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  v338
def k0_off11 (k0_t3 : Fin k0_t3_loop.trips) : Fin 2 → Nat :=
  let c2_i32 : BitVec 32 := 2#32
  let c0_i32_73 : BitVec 32 := 0#32
  let c1_i32_75 : BitVec 32 := 1#32
  let arg11 : BitVec 32 := Scf.iv c0_i32_73 c1_i32_75 k0_t3
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  let v339 : BitVec 32 := v338
  let v340 : Index := Scalar.indexCast v339
  let c0_238 : Index := 0#32
  ![v340.toNat, 0]
def k0_off12 (k0_t3 : Fin k0_t3_loop.trips) : Fin 3 → Nat :=
  let c2_i32 : BitVec 32 := 2#32
  let c0_i32_73 : BitVec 32 := 0#32
  let c1_i32_75 : BitVec 32 := 1#32
  let arg11 : BitVec 32 := Scf.iv c0_i32_73 c1_i32_75 k0_t3
  let v296 : BitVec 32 := Scalar.muli c2_i32 arg11
  let c1_i32_242 : BitVec 32 := 1#32
  let v347 : BitVec 32 := Scalar.addi v296 c1_i32_242
  let v362 : Index := Scalar.indexCast v347
  let c0_250 : Index := 0#32
  let c0_251 : Index := 0#32
  ![v362.toNat, 0, 0]
@[reducible] def k0_t4_loop : Scf.Loop 32 :=
  let c0_i32_100 : BitVec 32 := 0#32
  let c8_i32_101 : BitVec 32 := 8#32
  let v142 : BitVec 32 := Scalar.addi c0_i32_100 c8_i32_101
  let c1_i32_102 : BitVec 32 := 1#32
  ⟨c0_i32_100, v142, c1_i32_102⟩
def k0_mult8 (k0_t4 : Fin k0_t4_loop.trips) : BitVec 32 :=
  let c2_i32 : BitVec 32 := 2#32
  let c0_i32_100 : BitVec 32 := 0#32
  let c1_i32_102 : BitVec 32 := 1#32
  let arg11 : BitVec 32 := Scf.iv c0_i32_100 c1_i32_102 k0_t4
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  v298
def k0_off13 (k0_t4 : Fin k0_t4_loop.trips) : Fin 2 → Nat :=
  let c2_i32 : BitVec 32 := 2#32
  let c0_i32_100 : BitVec 32 := 0#32
  let c1_i32_102 : BitVec 32 := 1#32
  let arg11 : BitVec 32 := Scf.iv c0_i32_100 c1_i32_102 k0_t4
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  let v299 : BitVec 32 := v298
  let v300 : Index := Scalar.indexCast v299
  let c0_216 : Index := 0#32
  ![v300.toNat, 0]
def k0_off14 (k0_t4 : Fin k0_t4_loop.trips) : Fin 3 → Nat :=
  let c2_i32 : BitVec 32 := 2#32
  let c0_i32_100 : BitVec 32 := 0#32
  let c1_i32_102 : BitVec 32 := 1#32
  let arg11 : BitVec 32 := Scf.iv c0_i32_100 c1_i32_102 k0_t4
  let v296 : BitVec 32 := Scalar.muli c2_i32 arg11
  let v321 : Index := Scalar.indexCast v296
  let c0_227 : Index := 0#32
  let c0_228 : Index := 0#32
  ![v321.toNat, 0, 0]
def k0_mult9 (k0_t4 : Fin k0_t4_loop.trips) : BitVec 32 :=
  let c2_i32 : BitVec 32 := 2#32
  let c0_i32_100 : BitVec 32 := 0#32
  let c1_i32_102 : BitVec 32 := 1#32
  let arg11 : BitVec 32 := Scf.iv c0_i32_100 c1_i32_102 k0_t4
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  v338
def k0_off15 (k0_t4 : Fin k0_t4_loop.trips) : Fin 2 → Nat :=
  let c2_i32 : BitVec 32 := 2#32
  let c0_i32_100 : BitVec 32 := 0#32
  let c1_i32_102 : BitVec 32 := 1#32
  let arg11 : BitVec 32 := Scf.iv c0_i32_100 c1_i32_102 k0_t4
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  let v339 : BitVec 32 := v338
  let v340 : Index := Scalar.indexCast v339
  let c0_238 : Index := 0#32
  ![v340.toNat, 0]
def k0_off16 (k0_t4 : Fin k0_t4_loop.trips) : Fin 3 → Nat :=
  let c2_i32 : BitVec 32 := 2#32
  let c0_i32_100 : BitVec 32 := 0#32
  let c1_i32_102 : BitVec 32 := 1#32
  let arg11 : BitVec 32 := Scf.iv c0_i32_100 c1_i32_102 k0_t4
  let v296 : BitVec 32 := Scalar.muli c2_i32 arg11
  let c1_i32_242 : BitVec 32 := 1#32
  let v347 : BitVec 32 := Scalar.addi v296 c1_i32_242
  let v362 : Index := Scalar.indexCast v347
  let c0_250 : Index := 0#32
  let c0_251 : Index := 0#32
  ![v362.toNat, 0, 0]
@[reducible] def k0_t5_loop : Scf.Loop 32 :=
  let c0_i32_127 : BitVec 32 := 0#32
  let c8_i32_128 : BitVec 32 := 8#32
  let v178 : BitVec 32 := Scalar.addi c0_i32_127 c8_i32_128
  let c1_i32_129 : BitVec 32 := 1#32
  ⟨c0_i32_127, v178, c1_i32_129⟩
def k0_mult10 (k0_t5 : Fin k0_t5_loop.trips) : BitVec 32 :=
  let c2_i32 : BitVec 32 := 2#32
  let c0_i32_127 : BitVec 32 := 0#32
  let c1_i32_129 : BitVec 32 := 1#32
  let arg11 : BitVec 32 := Scf.iv c0_i32_127 c1_i32_129 k0_t5
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  v298
def k0_off17 (k0_t5 : Fin k0_t5_loop.trips) : Fin 2 → Nat :=
  let c2_i32 : BitVec 32 := 2#32
  let c0_i32_127 : BitVec 32 := 0#32
  let c1_i32_129 : BitVec 32 := 1#32
  let arg11 : BitVec 32 := Scf.iv c0_i32_127 c1_i32_129 k0_t5
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  let v299 : BitVec 32 := v298
  let v300 : Index := Scalar.indexCast v299
  let c0_216 : Index := 0#32
  ![v300.toNat, 0]
def k0_off18 (k0_t5 : Fin k0_t5_loop.trips) : Fin 3 → Nat :=
  let c2_i32 : BitVec 32 := 2#32
  let c0_i32_127 : BitVec 32 := 0#32
  let c1_i32_129 : BitVec 32 := 1#32
  let arg11 : BitVec 32 := Scf.iv c0_i32_127 c1_i32_129 k0_t5
  let v296 : BitVec 32 := Scalar.muli c2_i32 arg11
  let v321 : Index := Scalar.indexCast v296
  let c0_227 : Index := 0#32
  let c0_228 : Index := 0#32
  ![v321.toNat, 0, 0]
def k0_mult11 (k0_t5 : Fin k0_t5_loop.trips) : BitVec 32 :=
  let c2_i32 : BitVec 32 := 2#32
  let c0_i32_127 : BitVec 32 := 0#32
  let c1_i32_129 : BitVec 32 := 1#32
  let arg11 : BitVec 32 := Scf.iv c0_i32_127 c1_i32_129 k0_t5
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  v338
def k0_off19 (k0_t5 : Fin k0_t5_loop.trips) : Fin 2 → Nat :=
  let c2_i32 : BitVec 32 := 2#32
  let c0_i32_127 : BitVec 32 := 0#32
  let c1_i32_129 : BitVec 32 := 1#32
  let arg11 : BitVec 32 := Scf.iv c0_i32_127 c1_i32_129 k0_t5
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  let v339 : BitVec 32 := v338
  let v340 : Index := Scalar.indexCast v339
  let c0_238 : Index := 0#32
  ![v340.toNat, 0]
def k0_off20 (k0_t5 : Fin k0_t5_loop.trips) : Fin 3 → Nat :=
  let c2_i32 : BitVec 32 := 2#32
  let c0_i32_127 : BitVec 32 := 0#32
  let c1_i32_129 : BitVec 32 := 1#32
  let arg11 : BitVec 32 := Scf.iv c0_i32_127 c1_i32_129 k0_t5
  let v296 : BitVec 32 := Scalar.muli c2_i32 arg11
  let c1_i32_242 : BitVec 32 := 1#32
  let v347 : BitVec 32 := Scalar.addi v296 c1_i32_242
  let v362 : Index := Scalar.indexCast v347
  let c0_250 : Index := 0#32
  let c0_251 : Index := 0#32
  ![v362.toNat, 0, 0]
@[reducible] def k0_t6_loop : Scf.Loop 32 :=
  let c0_i32_154 : BitVec 32 := 0#32
  let c8_i32_155 : BitVec 32 := 8#32
  let v214 : BitVec 32 := Scalar.addi c0_i32_154 c8_i32_155
  let c1_i32_156 : BitVec 32 := 1#32
  ⟨c0_i32_154, v214, c1_i32_156⟩
def k0_mult12 (k0_t6 : Fin k0_t6_loop.trips) : BitVec 32 :=
  let c2_i32 : BitVec 32 := 2#32
  let c0_i32_154 : BitVec 32 := 0#32
  let c1_i32_156 : BitVec 32 := 1#32
  let arg11 : BitVec 32 := Scf.iv c0_i32_154 c1_i32_156 k0_t6
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  v298
def k0_off21 (k0_t6 : Fin k0_t6_loop.trips) : Fin 2 → Nat :=
  let c2_i32 : BitVec 32 := 2#32
  let c0_i32_154 : BitVec 32 := 0#32
  let c1_i32_156 : BitVec 32 := 1#32
  let arg11 : BitVec 32 := Scf.iv c0_i32_154 c1_i32_156 k0_t6
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  let v299 : BitVec 32 := v298
  let v300 : Index := Scalar.indexCast v299
  let c0_216 : Index := 0#32
  ![v300.toNat, 0]
def k0_off22 (k0_t6 : Fin k0_t6_loop.trips) : Fin 3 → Nat :=
  let c2_i32 : BitVec 32 := 2#32
  let c0_i32_154 : BitVec 32 := 0#32
  let c1_i32_156 : BitVec 32 := 1#32
  let arg11 : BitVec 32 := Scf.iv c0_i32_154 c1_i32_156 k0_t6
  let v296 : BitVec 32 := Scalar.muli c2_i32 arg11
  let v321 : Index := Scalar.indexCast v296
  let c0_227 : Index := 0#32
  let c0_228 : Index := 0#32
  ![v321.toNat, 0, 0]
def k0_mult13 (k0_t6 : Fin k0_t6_loop.trips) : BitVec 32 :=
  let c2_i32 : BitVec 32 := 2#32
  let c0_i32_154 : BitVec 32 := 0#32
  let c1_i32_156 : BitVec 32 := 1#32
  let arg11 : BitVec 32 := Scf.iv c0_i32_154 c1_i32_156 k0_t6
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  v338
def k0_off23 (k0_t6 : Fin k0_t6_loop.trips) : Fin 2 → Nat :=
  let c2_i32 : BitVec 32 := 2#32
  let c0_i32_154 : BitVec 32 := 0#32
  let c1_i32_156 : BitVec 32 := 1#32
  let arg11 : BitVec 32 := Scf.iv c0_i32_154 c1_i32_156 k0_t6
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  let v339 : BitVec 32 := v338
  let v340 : Index := Scalar.indexCast v339
  let c0_238 : Index := 0#32
  ![v340.toNat, 0]
def k0_off24 (k0_t6 : Fin k0_t6_loop.trips) : Fin 3 → Nat :=
  let c2_i32 : BitVec 32 := 2#32
  let c0_i32_154 : BitVec 32 := 0#32
  let c1_i32_156 : BitVec 32 := 1#32
  let arg11 : BitVec 32 := Scf.iv c0_i32_154 c1_i32_156 k0_t6
  let v296 : BitVec 32 := Scalar.muli c2_i32 arg11
  let c1_i32_242 : BitVec 32 := 1#32
  let v347 : BitVec 32 := Scalar.addi v296 c1_i32_242
  let v362 : Index := Scalar.indexCast v347
  let c0_250 : Index := 0#32
  let c0_251 : Index := 0#32
  ![v362.toNat, 0, 0]
@[reducible] def k0_t7_loop : Scf.Loop 32 :=
  let c0_i32_181 : BitVec 32 := 0#32
  let c8_i32_182 : BitVec 32 := 8#32
  let v250 : BitVec 32 := Scalar.addi c0_i32_181 c8_i32_182
  let c1_i32_183 : BitVec 32 := 1#32
  ⟨c0_i32_181, v250, c1_i32_183⟩
def k0_mult14 (k0_t7 : Fin k0_t7_loop.trips) : BitVec 32 :=
  let c2_i32 : BitVec 32 := 2#32
  let c0_i32_181 : BitVec 32 := 0#32
  let c1_i32_183 : BitVec 32 := 1#32
  let arg11 : BitVec 32 := Scf.iv c0_i32_181 c1_i32_183 k0_t7
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  v298
def k0_off25 (k0_t7 : Fin k0_t7_loop.trips) : Fin 2 → Nat :=
  let c2_i32 : BitVec 32 := 2#32
  let c0_i32_181 : BitVec 32 := 0#32
  let c1_i32_183 : BitVec 32 := 1#32
  let arg11 : BitVec 32 := Scf.iv c0_i32_181 c1_i32_183 k0_t7
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  let v299 : BitVec 32 := v298
  let v300 : Index := Scalar.indexCast v299
  let c0_216 : Index := 0#32
  ![v300.toNat, 0]
def k0_off26 (k0_t7 : Fin k0_t7_loop.trips) : Fin 3 → Nat :=
  let c2_i32 : BitVec 32 := 2#32
  let c0_i32_181 : BitVec 32 := 0#32
  let c1_i32_183 : BitVec 32 := 1#32
  let arg11 : BitVec 32 := Scf.iv c0_i32_181 c1_i32_183 k0_t7
  let v296 : BitVec 32 := Scalar.muli c2_i32 arg11
  let v321 : Index := Scalar.indexCast v296
  let c0_227 : Index := 0#32
  let c0_228 : Index := 0#32
  ![v321.toNat, 0, 0]
def k0_mult15 (k0_t7 : Fin k0_t7_loop.trips) : BitVec 32 :=
  let c2_i32 : BitVec 32 := 2#32
  let c0_i32_181 : BitVec 32 := 0#32
  let c1_i32_183 : BitVec 32 := 1#32
  let arg11 : BitVec 32 := Scf.iv c0_i32_181 c1_i32_183 k0_t7
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  v338
def k0_off27 (k0_t7 : Fin k0_t7_loop.trips) : Fin 2 → Nat :=
  let c2_i32 : BitVec 32 := 2#32
  let c0_i32_181 : BitVec 32 := 0#32
  let c1_i32_183 : BitVec 32 := 1#32
  let arg11 : BitVec 32 := Scf.iv c0_i32_181 c1_i32_183 k0_t7
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c0_i32_236 : BitVec 32 := 0#32
  let c2_i32_235 : BitVec 32 := 2#32
  let v335 : BitVec 32 := Scalar.addi v296 c2_i32_235
  let v336 : BitVec 32 := Scalar.select v334 c0_i32_236 v335
  let c512_i32_237 : BitVec 32 := 512#32
  let v338 : BitVec 32 := Scalar.muli v336 c512_i32_237
  let v339 : BitVec 32 := v338
  let v340 : Index := Scalar.indexCast v339
  let c0_238 : Index := 0#32
  ![v340.toNat, 0]
def k0_off28 (k0_t7 : Fin k0_t7_loop.trips) : Fin 3 → Nat :=
  let c2_i32 : BitVec 32 := 2#32
  let c0_i32_181 : BitVec 32 := 0#32
  let c1_i32_183 : BitVec 32 := 1#32
  let arg11 : BitVec 32 := Scf.iv c0_i32_181 c1_i32_183 k0_t7
  let v296 : BitVec 32 := Scalar.muli c2_i32 arg11
  let c1_i32_242 : BitVec 32 := 1#32
  let v347 : BitVec 32 := Scalar.addi v296 c1_i32_242
  let v362 : Index := Scalar.indexCast v347
  let c0_250 : Index := 0#32
  let c0_251 : Index := 0#32
  ![v362.toNat, 0, 0]
@[reducible] def k0_t8_loop : Scf.Loop 32 :=
  let c0_i32_201 : BitVec 32 := 0#32
  let c8_i32_202 : BitVec 32 := 8#32
  let v277 : BitVec 32 := Scalar.addi c0_i32_201 c8_i32_202
  let c1_i32_203 : BitVec 32 := 1#32
  ⟨c0_i32_201, v277, c1_i32_203⟩
def k0_mult16 (k0_t8 : Fin k0_t8_loop.trips) : BitVec 32 :=
  let c2_i32 : BitVec 32 := 2#32
  let c0_i32_201 : BitVec 32 := 0#32
  let c1_i32_203 : BitVec 32 := 1#32
  let arg11 : BitVec 32 := Scf.iv c0_i32_201 c1_i32_203 k0_t8
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  v298
def k0_off29 (k0_t8 : Fin k0_t8_loop.trips) : Fin 2 → Nat :=
  let c2_i32 : BitVec 32 := 2#32
  let c0_i32_201 : BitVec 32 := 0#32
  let c1_i32_203 : BitVec 32 := 1#32
  let arg11 : BitVec 32 := Scf.iv c0_i32_201 c1_i32_203 k0_t8
  let v296 : BitVec 32 := Scalar.muli c2_i32 arg11
  let c1_i32_215 : BitVec 32 := 1#32
  let v297 : BitVec 32 := Scalar.addi v296 c1_i32_215
  let c512_i32 : BitVec 32 := 512#32
  let v298 : BitVec 32 := Scalar.muli v297 c512_i32
  let v299 : BitVec 32 := v298
  let v300 : Index := Scalar.indexCast v299
  let c0_216 : Index := 0#32
  ![v300.toNat, 0]
def k0_off30 (k0_t8 : Fin k0_t8_loop.trips) : Fin 3 → Nat :=
  let c2_i32 : BitVec 32 := 2#32
  let c0_i32_201 : BitVec 32 := 0#32
  let c1_i32_203 : BitVec 32 := 1#32
  let arg11 : BitVec 32 := Scf.iv c0_i32_201 c1_i32_203 k0_t8
  let v296 : BitVec 32 := Scalar.muli c2_i32 arg11
  let v321 : Index := Scalar.indexCast v296
  let c0_227 : Index := 0#32
  let c0_228 : Index := 0#32
  ![v321.toNat, 0, 0]
def k0_mult17 (k0_t8 : Fin k0_t8_loop.trips) : BitVec 32 :=
  let c2_i32 : BitVec 32 := 2#32
  let c0_i32_201 : BitVec 32 := 0#32
  let c1_i32_203 : BitVec 32 := 1#32
  let arg11 : BitVec 32 := Scf.iv c0_i32_201 c1_i32_203 k0_t8
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c15_i32 : BitVec 32 := 15#32
  let c2_i32_235 : BitVec 32 := 2#32
  let v335 : BitVec 32 := Scalar.addi v296 c2_i32_235
  let v336 : BitVec 32 := Scalar.select v334 c15_i32 v335
  let c512_i32_236 : BitVec 32 := 512#32
  let v338 : BitVec 32 := Scalar.muli v336 c512_i32_236
  v338
def k0_off31 (k0_t8 : Fin k0_t8_loop.trips) : Fin 2 → Nat :=
  let c2_i32 : BitVec 32 := 2#32
  let c0_i32_201 : BitVec 32 := 0#32
  let c1_i32_203 : BitVec 32 := 1#32
  let arg11 : BitVec 32 := Scf.iv c0_i32_201 c1_i32_203 k0_t8
  let v296 : BitVec 32 := Scalar.muli c2_i32 arg11
  let c2_i32_234 : BitVec 32 := 2#32
  let v333 : BitVec 32 := Scalar.addi v296 c2_i32_234
  let c16_i32 : BitVec 32 := 16#32
  let v334 : BitVec 1 := Scalar.cmpi .sge v333 c16_i32
  let c15_i32 : BitVec 32 := 15#32
  let c2_i32_235 : BitVec 32 := 2#32
  let v335 : BitVec 32 := Scalar.addi v296 c2_i32_235
  let v336 : BitVec 32 := Scalar.select v334 c15_i32 v335
  let c512_i32_236 : BitVec 32 := 512#32
  let v338 : BitVec 32 := Scalar.muli v336 c512_i32_236
  let v339 : BitVec 32 := v338
  let v340 : Index := Scalar.indexCast v339
  let c0_237 : Index := 0#32
  ![v340.toNat, 0]
def k0_off32 (k0_t8 : Fin k0_t8_loop.trips) : Fin 3 → Nat :=
  let c2_i32 : BitVec 32 := 2#32
  let c0_i32_201 : BitVec 32 := 0#32
  let c1_i32_203 : BitVec 32 := 1#32
  let arg11 : BitVec 32 := Scf.iv c0_i32_201 c1_i32_203 k0_t8
  let v296 : BitVec 32 := Scalar.muli c2_i32 arg11
  let c1_i32_241 : BitVec 32 := 1#32
  let v347 : BitVec 32 := Scalar.addi v296 c1_i32_241
  let v362 : Index := Scalar.indexCast v347
  let c0_249 : Index := 0#32
  let c0_250 : Index := 0#32
  ![v362.toNat, 0, 0]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg2
  let c0_i32 : BitVec 32 := 0#32
  ![v1.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S16x144x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S6x8192x8x128 : Shape := ⟨4, ![6, 8192, 8, 128]⟩
abbrev S6x8192x2x128 : Shape := ⟨4, ![6, 8192, 2, 128]⟩
abbrev S6x8192x2x4x128 : Shape := ⟨5, ![6, 8192, 2, 4, 128]⟩
abbrev S6x2x8192x8192x4 : Shape := ⟨5, ![6, 2, 8192, 8192, 4]⟩
abbrev S6x2x4x8192x8192 : Shape := ⟨5, ![6, 2, 4, 8192, 8192]⟩
abbrev S_ : Shape := ⟨0, ![]⟩
abbrev S6x2x4x8192 : Shape := ⟨4, ![6, 2, 4, 8192]⟩
abbrev S6x2x4x8192x1 : Shape := ⟨5, ![6, 2, 4, 8192, 1]⟩
abbrev S6x2x128x4x8192 : Shape := ⟨5, ![6, 2, 128, 4, 8192]⟩
abbrev S49152x1024 : Shape := ⟨2, ![49152, 1024]⟩

abbrev nBuf : Space → Nat
  | .hbm => 28
  | .vmem => 0
  | .smem => 0
  | _ => 0

abbrev bufTy : (tb : Table) → Fin (tcTables nBuf tb) → BufTy
  | .hbm, ⟨0, _⟩ => ⟨S6x8192x8x128, .f32⟩
  | .hbm, ⟨1, _⟩ => ⟨S6x8192x2x128, .f32⟩
  | .hbm, ⟨2, _⟩ => ⟨S6x8192x2x128, .f32⟩
  | .hbm, ⟨3, _⟩ => ⟨S6x8192x2x4x128, .f32⟩
  | .hbm, ⟨4, _⟩ => ⟨S6x2x8192x8192x4, .f32⟩
  | .hbm, ⟨5, _⟩ => ⟨S6x2x4x8192x8192, .f32⟩
  | .hbm, ⟨6, _⟩ => ⟨S_, .f32⟩
  | .hbm, ⟨7, _⟩ => ⟨S_, .f32⟩
  | .hbm, ⟨8, _⟩ => ⟨S6x2x4x8192x8192, .f32⟩
  | .hbm, ⟨9, _⟩ => ⟨S6x2x4x8192x8192, .f32⟩
  | .hbm, ⟨10, _⟩ => ⟨S_, .f32⟩
  | .hbm, ⟨11, _⟩ => ⟨S6x2x4x8192, .f32⟩
  | .hbm, ⟨12, _⟩ => ⟨S_, .f32⟩
  | .hbm, ⟨13, _⟩ => ⟨S6x2x4x8192, .f32⟩
  | .hbm, ⟨14, _⟩ => ⟨S6x2x4x8192, .f32⟩
  | .hbm, ⟨15, _⟩ => ⟨S6x2x4x8192x1, .f32⟩
  | .hbm, ⟨16, _⟩ => ⟨S6x2x4x8192x8192, .f32⟩
  | .hbm, ⟨17, _⟩ => ⟨S6x2x4x8192x8192, .f32⟩
  | .hbm, ⟨18, _⟩ => ⟨S6x2x4x8192x8192, .f32⟩
  | .hbm, ⟨19, _⟩ => ⟨S_, .f32⟩
  | .hbm, ⟨20, _⟩ => ⟨S6x2x4x8192, .f32⟩
  | .hbm, ⟨21, _⟩ => ⟨S6x2x4x8192x1, .f32⟩
  | .hbm, ⟨22, _⟩ => ⟨S6x2x4x8192x8192, .f32⟩
  | .hbm, ⟨23, _⟩ => ⟨S6x2x4x8192x8192, .f32⟩
  | .hbm, ⟨24, _⟩ => ⟨S6x2x128x4x8192, .f32⟩
  | .hbm, ⟨25, _⟩ => ⟨S6x8192x2x4x128, .f32⟩
  | .hbm, ⟨26, _⟩ => ⟨S49152x1024, .f32⟩
  | .hbm, ⟨27, _⟩ => ⟨S49152x1024, .bf16⟩
  | _, _ => ⟨S6x8192x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩

abbrev nD : Nat := 1
abbrev τ : Topo := Topo.v7x

variable {F : FTy → Type} [FloatOps F]
-- ==== Kernel2.lean ====
abbrev S49152x2048 : Shape := ⟨2, ![49152, 2048]⟩
abbrev S2048x8192 : Shape := ⟨2, ![2048, 8192]⟩
abbrev S49152x8192 : Shape := ⟨2, ![49152, 8192]⟩
abbrev S1024x2048 : Shape := ⟨2, ![1024, 2048]⟩
abbrev S2048x2048 : Shape := ⟨2, ![2048, 2048]⟩

abbrev nBuf : Space → Nat
  | .hbm => 5
  | .vmem => 6
  | .smem => 0
  | _ => 0

abbrev bufTy : (tb : Table) → Fin (tcTables nBuf tb) → BufTy
  | .hbm, ⟨0, _⟩ => ⟨S49152x2048, .f32⟩
  | .hbm, ⟨1, _⟩ => ⟨S2048x8192, .f32⟩
  | .hbm, ⟨2, _⟩ => ⟨S49152x2048, .bf16⟩
  | .hbm, ⟨3, _⟩ => ⟨S2048x8192, .bf16⟩
  | .hbm, ⟨4, _⟩ => ⟨S49152x8192, .bf16⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .bf16⟩
  | .local _ .vmem, ⟨5, _⟩ => ⟨S1024x2048, .bf16⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S49152x2048 : Shape := ⟨2, ![49152, 2048]⟩
abbrev S2048x8192 : Shape := ⟨2, ![2048, 8192]⟩
abbrev S49152x8192 : Shape := ⟨2, ![49152, 8192]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S2048x8192, .f32⟩
  | .hbm, ⟨2, _⟩ => ⟨S49152x8192, .f32⟩
  | .hbm, ⟨3, _⟩ => ⟨S_, .f32⟩
  | .hbm, ⟨4, _⟩ => ⟨S49152x8192, .f32⟩
  | .hbm, ⟨5, _⟩ => ⟨S49152x8192, .f32⟩
  | .hbm, ⟨6, _⟩ => ⟨S49152x8192, .f32⟩
  | .hbm, ⟨7, _⟩ => ⟨S49152x8192, .bf16⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel3.lean ====
abbrev S49152x2048 : Shape := ⟨2, ![49152, 2048]⟩
abbrev S2048x11264 : Shape := ⟨2, ![2048, 11264]⟩
abbrev S2048x6144 : Shape := ⟨2, ![2048, 6144]⟩
abbrev S49152x6144 : Shape := ⟨2, ![49152, 6144]⟩
abbrev S1024x2048 : Shape := ⟨2, ![1024, 2048]⟩
abbrev S2048x2048 : Shape := ⟨2, ![2048, 2048]⟩

abbrev nBuf : Space → Nat
  | .hbm => 6
  | .vmem => 6
  | .smem => 0
  | _ => 0

abbrev bufTy : (tb : Table) → Fin (tcTables nBuf tb) → BufTy
  | .hbm, ⟨0, _⟩ => ⟨S49152x2048, .f32⟩
  | .hbm, ⟨1, _⟩ => ⟨S2048x11264, .f32⟩
  | .hbm, ⟨2, _⟩ => ⟨S49152x2048, .bf16⟩
  | .hbm, ⟨3, _⟩ => ⟨S2048x6144, .f32⟩
  | .hbm, ⟨4, _⟩ => ⟨S2048x6144, .bf16⟩
  | .hbm, ⟨5, _⟩ => ⟨S49152x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S2048x2048, .bf16⟩
  | .local _ .vmem, ⟨4, _⟩ => ⟨S1024x2048, .f32⟩
  | .local _ .vmem, ⟨5, _⟩ => ⟨S1024x2048, .f32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S2048x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference3Ideal.lean ====
abbrev S49152x2048 : Shape := ⟨2, ![49152, 2048]⟩
abbrev S2048x11264 : Shape := ⟨2, ![2048, 11264]⟩
abbrev S49152x11264 : Shape := ⟨2, ![49152, 11264]⟩
abbrev S49152x6144 : Shape := ⟨2, ![49152, 6144]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S2048x11264, .f32⟩
  | .hbm, ⟨2, _⟩ => ⟨S49152x11264, .f32⟩
  | .hbm, ⟨3, _⟩ => ⟨S49152x6144, .f32⟩
  | .hbm, ⟨4, _⟩ => ⟨S49152x6144, .f32⟩
  | .hbm, ⟨5, _⟩ => ⟨S49152x6144, .f32⟩
  | .hbm, ⟨6, _⟩ => ⟨S_, .f32⟩
  | .hbm, ⟨7, _⟩ => ⟨S49152x6144, .f32⟩
  | .hbm, ⟨8, _⟩ => ⟨S49152x6144, .f32⟩
  | .hbm, ⟨9, _⟩ => ⟨S_, .f32⟩
  | .hbm, ⟨10, _⟩ => ⟨S49152x6144, .f32⟩
  | .hbm, ⟨11, _⟩ => ⟨S49152x6144, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Kernel4.lean ====
abbrev S49152x2048 : Shape := ⟨2, ![49152, 2048]⟩
abbrev S2048x11264 : Shape := ⟨2, ![2048, 11264]⟩
abbrev S2048x2048 : Shape := ⟨2, ![2048, 2048]⟩
abbrev S1024x2048 : Shape := ⟨2, ![1024, 2048]⟩

abbrev nBuf : Space → Nat
  | .hbm => 6
  | .vmem => 5
  | .smem => 0
  | _ => 0

abbrev bufTy : (tb : Table) → Fin (tcTables nBuf tb) → BufTy
  | .hbm, ⟨0, _⟩ => ⟨S49152x2048, .f32⟩
  | .hbm, ⟨1, _⟩ => ⟨S2048x11264, .f32⟩
  | .hbm, ⟨2, _⟩ => ⟨S49152x2048, .bf16⟩
  | .hbm, ⟨3, _⟩ => ⟨S2048x2048, .f32⟩
  | .hbm, ⟨4, _⟩ => ⟨S2048x2048, .bf16⟩
  | .hbm, ⟨5, _⟩ => ⟨S49152x2048, .f32⟩
  | .local _ .vmem, ⟨0, _⟩ => ⟨S1024x2048, .bf16⟩
  | .local _ .vmem, ⟨1, _⟩ => ⟨S1024x2048, .bf16⟩
  | .local _ .vmem, ⟨2, _⟩ => ⟨S2048x2048, .bf16⟩
  | .local _ .vmem, ⟨3, _⟩ => ⟨S1024x2048, .f32⟩
  | .local _ .vmem, ⟨4, _⟩ => ⟨S1024x2048, .f32⟩
  | _, _ => ⟨S49152x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S49152x2048 : Shape := ⟨2, ![49152, 2048]⟩
abbrev S2048x11264 : Shape := ⟨2, ![2048, 11264]⟩
abbrev S49152x11264 : Shape := ⟨2, ![49152, 11264]⟩

abbrev nBuf : Space → Nat
  | .hbm => 4
  | .vmem => 0
  | .smem => 0
  | _ => 0

abbrev bufTy : (tb : Table) → Fin (tcTables nBuf tb) → BufTy
  | .hbm, ⟨0, _⟩ => ⟨S49152x2048, .f32⟩
  | .hbm, ⟨1, _⟩ => ⟨S2048x11264, .f32⟩
  | .hbm, ⟨2, _⟩ => ⟨S49152x11264, .f32⟩
  | .hbm, ⟨3, _⟩ => ⟨S49152x2048, .f32⟩
  | _, _ => ⟨S49152x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel5.lean ====
abbrev S49152x8192 : Shape := ⟨2, ![49152, 8192]⟩
abbrev S8192x2048 : Shape := ⟨2, ![8192, 2048]⟩
abbrev S49152x2048 : Shape := ⟨2, ![49152, 2048]⟩
abbrev S2048 : Shape := ⟨1, ![2048]⟩
abbrev S1x2048 : Shape := ⟨2, ![1, 2048]⟩
abbrev S32768x2048 : Shape := ⟨2, ![32768, 2048]⟩
abbrev S1024x1024 : Shape := ⟨2, ![1024, 1024]⟩
abbrev S1024x2048 : Shape := ⟨2, ![1024, 2048]⟩
abbrev S1024x256 : Shape := ⟨2, ![1024, 256]⟩
abbrev S8x1024x256 : Shape := ⟨3, ![8, 1024, 256]⟩
abbrev S1x1024x256 : Shape := ⟨3, ![1, 1024, 256]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 9
  | .vmem => 11
  | .smem => 0
  | _ => 0

abbrev bufTy : (tb : Table) → Fin (tcTables nBuf tb) → BufTy
  | .hbm, ⟨0, _⟩ => ⟨S49152x8192, .f32⟩
  | .hbm, ⟨1, _⟩ => ⟨S8192x2048, .f32⟩
  | .hbm, ⟨2, _⟩ => ⟨S49152x2048, .f32⟩
  | .hbm, ⟨3, _⟩ => ⟨S2048, .f32⟩
  | .hbm, ⟨4, _⟩ => ⟨S49152x8192, .bf16⟩
  | .hbm, ⟨5, _⟩ => ⟨S8192x2048, .bf16⟩
  | .hbm, ⟨6, _⟩ => ⟨S1x2048, .f32⟩
  | .hbm, ⟨7, _⟩ => ⟨S1x2048, .f32⟩
  | .hbm, ⟨8, _⟩ => ⟨S32768x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x256, .f32⟩
  | .local _ .vmem, ⟨5, _⟩ => ⟨S1024x256, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S8x1024x256, .f32⟩
  | _, _ => ⟨S49152x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![32, 8], ![false, false]⟩

def k0_off1 (i : grid0.Coords) : Fin 3 → Nat :=
  let arg1 : BitVec 32 := BitVec.ofNat 32 (i 1).val
  let v1 : Index := Scalar.indexCast arg1
  let c0_1 : Index := 0#32
  let c0_2 : Index := 0#32
  ![v1.toNat, 0, 0]
def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v6 : BitVec 1 := Scalar.andi v5 v_true
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let c7_i32 : BitVec 32 := 7#32
  let v10 : BitVec 1 := Scalar.cmpi .slt arg1 c7_i32
  let v11 : BitVec 1 := Scalar.andi v9 v10
  let v12 : BitVec 32 := Scalar.extui v11
  let c0_i32_5 : BitVec 32 := 0#32
  let v13 : BitVec 1 := Scalar.cmpi .ne v12 c0_i32_5
  v13

def k0_cond3 (i : grid0.Coords) : BitVec 1 :=
  let arg1 : BitVec 32 := BitVec.ofNat 32 (i 1).val
  let c7_i32_6 : BitVec 32 := 7#32
  let v14 : BitVec 1 := Scalar.cmpi .eq arg1 c7_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference5Ideal.lean ====
abbrev S49152x8192 : Shape := ⟨2, ![49152, 8192]⟩
abbrev S8192x2048 : Shape := ⟨2, ![8192, 2048]⟩
abbrev S49152x2048 : Shape := ⟨2, ![49152, 2048]⟩
abbrev S2048 : Shape := ⟨1, ![2048]⟩
abbrev S_ : Shape := ⟨0, ![]⟩
abbrev S49152 : Shape := ⟨1, ![49152]⟩
abbrev S49152x1 : Shape := ⟨2, ![49152, 1]⟩
abbrev S1x2048 : Shape := ⟨2, ![1, 2048]⟩
abbrev S32768x2048 : Shape := ⟨2, ![32768, 2048]⟩

abbrev nBuf : Space → Nat
  | .hbm => 23
  | .vmem => 0
  | .smem => 0
  | _ => 0

abbrev bufTy : (tb : Table) → Fin (tcTables nBuf tb) → BufTy
  | .hbm, ⟨0, _⟩ => ⟨S49152x8192, .f32⟩
  | .hbm, ⟨1, _⟩ => ⟨S8192x2048, .f32⟩
  | .hbm, ⟨2, _⟩ => ⟨S49152x2048, .f32⟩
  | .hbm, ⟨3, _⟩ => ⟨S2048, .f32⟩
  | .hbm, ⟨4, _⟩ => ⟨S49152x2048, .f32⟩
  | .hbm, ⟨5, _⟩ => ⟨S49152x2048, .f32⟩
  | .hbm, ⟨6, _⟩ => ⟨S_, .f32⟩
  | .hbm, ⟨7, _⟩ => ⟨S49152, .f32⟩
  | .hbm, ⟨8, _⟩ => ⟨S49152x1, .f32⟩
  | .hbm, ⟨9, _⟩ => ⟨S_, .f32⟩
  | .hbm, ⟨10, _⟩ => ⟨S49152x1, .f32⟩
  | .hbm, ⟨11, _⟩ => ⟨S49152x1, .f32⟩
  | .hbm, ⟨12, _⟩ => ⟨S_, .f32⟩
  | .hbm, ⟨13, _⟩ => ⟨S49152x1, .f32⟩
  | .hbm, ⟨14, _⟩ => ⟨S49152x1, .f32⟩
  | .hbm, ⟨15, _⟩ => ⟨S49152x1, .f32⟩
  | .hbm, ⟨16, _⟩ => ⟨S49152x2048, .f32⟩
  | .hbm, ⟨17, _⟩ => ⟨S49152x2048, .f32⟩
  | .hbm, ⟨18, _⟩ => ⟨S1x2048, .f32⟩
  | .hbm, ⟨19, _⟩ => ⟨S49152x2048, .f32⟩
  | .hbm, ⟨20, _⟩ => ⟨S49152x2048, .f32⟩
  | .hbm, ⟨21, _⟩ => ⟨S49152x2048, .f32⟩
  | .hbm, ⟨22, _⟩ => ⟨S32768x2048, .f32⟩
  | _, _ => ⟨S49152x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Kernel6.lean ====
abbrev S49152x8192 : Shape := ⟨2, ![49152, 8192]⟩
abbrev S8192x2048 : Shape := ⟨2, ![8192, 2048]⟩
abbrev S49152x2048 : Shape := ⟨2, ![49152, 2048]⟩
abbrev S2048 : Shape := ⟨1, ![2048]⟩
abbrev S1x2048 : Shape := ⟨2, ![1, 2048]⟩
abbrev S16384x2048 : Shape := ⟨2, ![16384, 2048]⟩
abbrev S1024x1024 : Shape := ⟨2, ![1024, 1024]⟩
abbrev S1024x2048 : Shape := ⟨2, ![1024, 2048]⟩
abbrev S1024x256 : Shape := ⟨2, ![1024, 256]⟩
abbrev S8x1024x256 : Shape := ⟨3, ![8, 1024, 256]⟩
abbrev S1x1024x256 : Shape := ⟨3, ![1, 1024, 256]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 9
  | .vmem => 11
  | .smem => 0
  | _ => 0

abbrev bufTy : (tb : Table) → Fin (tcTables nBuf tb) → BufTy
  | .hbm, ⟨0, _⟩ => ⟨S49152x8192, .f32⟩
  | .hbm, ⟨1, _⟩ => ⟨S8192x2048, .f32⟩
  | .hbm, ⟨2, _⟩ => ⟨S49152x2048, .f32⟩
  | .hbm, ⟨3, _⟩ => ⟨S2048, .f32⟩
  | .hbm, ⟨4, _⟩ => ⟨S49152x8192, .bf16⟩
  | .hbm, ⟨5, _⟩ => ⟨S8192x2048, .bf16⟩
  | .hbm, ⟨6, _⟩ => ⟨S1x2048, .f32⟩
  | .hbm, ⟨7, _⟩ => ⟨S1x2048, .f32⟩
  | .hbm, ⟨8, _⟩ => ⟨S16384x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x256, .f32⟩
  | .local _ .vmem, ⟨5, _⟩ => ⟨S1024x256, .f32⟩
  | .local _ .vmem, ⟨6, _⟩ => ⟨S1x2048, .f32⟩
  | .local _ .vmem, ⟨7, _⟩ => ⟨S1x2048, .f32⟩
  | .local _ .vmem, ⟨8, _⟩ => ⟨S1024x2048, .f32⟩
  | .local _ .vmem, ⟨9, _⟩ => ⟨S1024x2048, .f32⟩
  | .local _ .vmem, ⟨10, _⟩ => ⟨S8x1024x256, .f32⟩
  | _, _ => ⟨S49152x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![16, 8], ![false, false]⟩

def k0_off1 (i : grid0.Coords) : Fin 3 → Nat :=
  let arg1 : BitVec 32 := BitVec.ofNat 32 (i 1).val
  let v1 : Index := Scalar.indexCast arg1
  let c0_1 : Index := 0#32
  let c0_2 : Index := 0#32
  ![v1.toNat, 0, 0]
def k0_cond1 (i : grid0.Coords) : BitVec 1 :=
  let arg1 : BitVec 32 := BitVec.ofNat 32 (i 1).val
  let c0_i32 : BitVec 32 := 0#32
  let v5 : BitVec 1 := Scalar.cmpi .eq arg1 c0_i32
  let v_true : BitVec 1 := 1#1
  let v6 : BitVec 1 := Scalar.andi v5 v_true
  let v7 : BitVec 32 := Scalar.extui v6
  let c0_i32_3 : BitVec 32 := 0#32
  let v8 : BitVec 1 := Scalar.cmpi .ne v7 c0_i32_3
  v8

def k0_cond2 (i : grid0.Coords) : BitVec 1 :=
  let arg1 : BitVec 32 := BitVec.ofNat 32 (i 1).val
  let c0_i32_4 : BitVec 32 := 0#32
  let v9 : BitVec 1 := Scalar.cmpi .sgt arg1 c0_i32_4
  let c7_i32 : BitVec 32 := 7#32
  let v10 : BitVec 1 := Scalar.cmpi .slt arg1 c7_i32
  let v11 : BitVec 1 := Scalar.andi v9 v10
  let v12 : BitVec 32 := Scalar.extui v11
  let c0_i32_5 : BitVec 32 := 0#32
  let v13 : BitVec 1 := Scalar.cmpi .ne v12 c0_i32_5
  v13

def k0_cond3 (i : grid0.Coords) : BitVec 1 :=
  let arg1 : BitVec 32 := BitVec.ofNat 32 (i 1).val
  let c7_i32_6 : BitVec 32 := 7#32
  let v14 : BitVec 1 := Scalar.cmpi .eq arg1 c7_i32_6
  let v15 : BitVec 32 := Scalar.extui v14
  let c0_i32_7 : BitVec 32 := 0#32
  let v16 : BitVec 1 := Scalar.cmpi .ne v15 c0_i32_7
  v16

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![v0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg0
  let c0_i32 : BitVec 32 := 0#32
  ![v0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference6Ideal.lean ====
abbrev S49152x8192 : Shape := ⟨2, ![49152, 8192]⟩
abbrev S8192x2048 : Shape := ⟨2, ![8192, 2048]⟩
abbrev S49152x2048 : Shape := ⟨2, ![49152, 2048]⟩
abbrev S2048 : Shape := ⟨1, ![2048]⟩
abbrev S_ : Shape := ⟨0, ![]⟩
abbrev S49152 : Shape := ⟨1, ![49152]⟩
abbrev S49152x1 : Shape := ⟨2, ![49152, 1]⟩
abbrev S1x2048 : Shape := ⟨2, ![1, 2048]⟩
abbrev S16384x2048 : Shape := ⟨2, ![16384, 2048]⟩

abbrev nBuf : Space → Nat
  | .hbm => 23
  | .vmem => 0
  | .smem => 0
  | _ => 0

abbrev bufTy : (tb : Table) → Fin (tcTables nBuf tb) → BufTy
  | .hbm, ⟨0, _⟩ => ⟨S49152x8192, .f32⟩
  | .hbm, ⟨1, _⟩ => ⟨S8192x2048, .f32⟩
  | .hbm, ⟨2, _⟩ => ⟨S49152x2048, .f32⟩
  | .hbm, ⟨3, _⟩ => ⟨S2048, .f32⟩
  | .hbm, ⟨4, _⟩ => ⟨S49152x2048, .f32⟩
  | .hbm, ⟨5, _⟩ => ⟨S49152x2048, .f32⟩
  | .hbm, ⟨6, _⟩ => ⟨S_, .f32⟩
  | .hbm, ⟨7, _⟩ => ⟨S49152, .f32⟩
  | .hbm, ⟨8, _⟩ => ⟨S49152x1, .f32⟩
  | .hbm, ⟨9, _⟩ => ⟨S_, .f32⟩
  | .hbm, ⟨10, _⟩ => ⟨S49152x1, .f32⟩
  | .hbm, ⟨11, _⟩ => ⟨S49152x1, .f32⟩
  | .hbm, ⟨12, _⟩ => ⟨S_, .f32⟩
  | .hbm, ⟨13, _⟩ => ⟨S49152x1, .f32⟩
  | .hbm, ⟨14, _⟩ => ⟨S49152x1, .f32⟩
  | .hbm, ⟨15, _⟩ => ⟨S49152x1, .f32⟩
  | .hbm, ⟨16, _⟩ => ⟨S49152x2048, .f32⟩
  | .hbm, ⟨17, _⟩ => ⟨S49152x2048, .f32⟩
  | .hbm, ⟨18, _⟩ => ⟨S1x2048, .f32⟩
  | .hbm, ⟨19, _⟩ => ⟨S49152x2048, .f32⟩
  | .hbm, ⟨20, _⟩ => ⟨S49152x2048, .f32⟩
  | .hbm, ⟨21, _⟩ => ⟨S49152x2048, .f32⟩
  | .hbm, ⟨22, _⟩ => ⟨S16384x2048, .f32⟩
  | _, _ => ⟨S49152x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== Proof.AnyRun.lean ====
/- The body of the kernel as compiled, at any floats: it runs, hands its inputs back and leaves its result's block at some
   contents. This is all the kernel's frame needs. -/
module

public import proofs.«01_k».proof.Proof.Gen.Kernel.Frame.Runs

@[expose] public section

set_option maxRecDepth 16384

noncomputable section

namespace Cert.Kernel.Any

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 8000000 in
/-- The body, from the inputs' contents and any contents elsewhere, ends with the inputs as they were. -/
theorem run (c : Dev nD) (i : grid0.Coords) (arg3 : Memref sig .tc .vmem S2048x512 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S144x1024 .f32) (harg8 : arg8.IsWhole) (arg9 : Memref sig .tc .vmem S512x1024 .f32) (harg9 : arg9.IsWhole) (arg10 : Memref sig .tc .vmem S512x1024 .f32) (harg10 : arg10.IsWhole)
    (x0 : Vec F S2048x512 .bf16) (x1 : Vec F S8192x128 .bf16) (x2 : Vec F S16x144x512 .bf16) :
    ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)) -∗ K ⟨⟩))
          ⊢ wp frame (wpE (defs₀ (F := F)) Variants.none c none) E (cc0_attn_global i arg3 harg3 arg4 harg4 arg5 harg5 arg6 harg6 arg7 harg7 arg8 harg8 arg9 harg9 arg10 harg10) K := by
  intro E K
  simp only [cc0_attn_global_eq_skeleton]; unfold cc0_attn_global_skel
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2
  sl_exec
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _, _; isplitr; swap; · iexact H3
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  iexists _, _; isplitr; swap; · iexact HS3
  ipureintro; rfl

end Cert.Kernel.Any

end
-- ==== Proof.AnyFlow.lean ====
/- The frame of the kernel as compiled, at any floats: nothing is said of its result, and its arguments end as launched. -/
module

public import proofs.«01_k».proof.Proof.AnyRun
public import Idealize.ShloMosaic.Lib.Claim

@[expose] public section

set_option maxRecDepth 16384

noncomputable section

namespace Cert.Kernel.Any

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The window nothing is said of: the result's. -/
def unsaid (w : Fin cfg0.W) : Bool := w == 3

/-- The pipeline's data: the arrays as the region finds them, each input's buffer left as fetched, the result's unnamed. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, h⟩ => Dat.unnamed (cfg := cfg0) ⟨3, h⟩ t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]

/-- Each input's buffer holds its block whenever the body runs. -/
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is handed at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare d))

/-- What it hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ (∃ d, owns (c : Thread nD τ) (ms0_3 t) fullShare d))

set_option maxHeartbeats 800000 in
/-- The body at a point, from `run`. -/
theorem sound_body (c : Dev nD) (t : Fin cfg0.N) :
    bodyPre m c t ⊢ wp frame (wpE (defs₀ (F := F)) Variants.none c none) Set.univ (bodyAt0 (F := F) t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩⟩
  iapply (run c (grid0.coords t) _ _ _ _ _ _ _ _ _ _ _ _ _ _ _ _ (X0_0 m c t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

/-- The body the pipeline calls at a point. -/
theorem defs₀_row (t : Fin cfg0.N) :
    defs₀ (F := F) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := F)) Variants.none () Set.univ unsaid := fun t => by
  rw [bigSep_W0, bigSep_W0, defs₀_row]
  exact triple_restated (sound_body m c t) rfl .rfl fun _ => .rfl

set_option backward.isDefEq.respectTransparency.types false in
/-- Every execution ends, with the buffers outside the pipeline as the region found them and all semaphores at zero. -/
theorem run_main : θ_run defs (onTc (τ := τ) (main (F := F))) (s₀ m ρ)
    (fun r => Pipeline.RDat.FramePost cfg0 (fun c => (dats m 0 c).toRForget unsaid) (V m) r ∧ r.2.sem = fun _ => 0) :=
  Pipeline.θ_run_frame_forget_shared (Q' := _) cfgs (dats m) (0 : Fin 1) launch₀0 defs₀ Variants.none unsaid m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged and all semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨((h.1 c).2 main_arg0 (Pipeline.mem_restRefs_of main_arg0 (by decide) (by decide))).trans (V_main_arg0 m c),
        ((h.1 c).2 main_arg1 (Pipeline.mem_restRefs_of main_arg1 (by decide) (by decide))).trans (V_main_arg1 m c),
        ((h.1 c).2 main_arg2 (Pipeline.mem_restRefs_of main_arg2 (by decide) (by decide))).trans (V_main_arg2 m c)⟩, h.2⟩)
    (run_main m ρ)

end Cert.Kernel.Any

end
-- ==== Proof.Finite.lean ====
/- What the precondition says: a query or a key of absolute value below infinity is a real. -/
module

public import proofs.«01_k».proof.Defs
public import Idealize.ShloMosaic.Lib.Pipeline.Value

@[expose] public section

noncomputable section

namespace Cert.Finite

open Idealize.ShloMosaic

/-- The precondition's shape facts. -/
instance facts : Cert.Pre_finite_q_k.Facts :=
  ⟨by decide, by decide⟩

/-- The word of the bound is infinity. -/
theorem ofBits_top : Ideal.ofBits .f32 0x7F800000#32 = (⊤ : EReal) := by
  simp [Ideal.ofBits, Ideal.ieee]

/-- An extended real whose absolute value compares below infinity is a real. -/
theorem real_of_cmp (x : EReal) (h : Ideal.cmp .olt (max x (-x)) (Ideal.ofBits .f32 0x7F800000#32) = 1#1) :
    x = (x.toReal : EReal) := by
  have h' : max x (-x) < ⊤ := by
    rw [ofBits_top] at h
    by_contra hn
    simp [Ideal.cmp, hn] at h
  obtain ⟨h1, h2⟩ := max_lt_iff.mp h'
  exact (EReal.coe_toReal h1.ne fun e => by rw [e] at h2; simp at h2).symm

/-- Under the precondition every query is a real … -/
theorem queries [Cert.Pre_finite_q_k.Facts] (m : (ℓ : Loc Cert.KernelIdeal.nD Cert.KernelIdeal.τ Cert.KernelIdeal.sig) → Buf (Elt Ideal) ℓ)
    (h : Cert.Pre_KernelIdeal_finite_q_k m) (c : Dev Cert.KernelIdeal.nD) (i : Cert.KernelIdeal.S6x8192x8x128.Idx) :
    (show FVec Ideal Cert.KernelIdeal.S6x8192x8x128 .f32 from m ((c.tc : Thread Cert.KernelIdeal.nD Cert.KernelIdeal.τ).loc Cert.KernelIdeal.main_arg0)) i
      = (EReal.toReal ((show FVec Ideal Cert.KernelIdeal.S6x8192x8x128 .f32 from m ((c.tc : Thread Cert.KernelIdeal.nD Cert.KernelIdeal.τ).loc Cert.KernelIdeal.main_arg0)) i) : EReal) :=
  real_of_cmp _ (congrFun (h c).1 i)

/-- … and so is every key. -/
theorem keys [Cert.Pre_finite_q_k.Facts] (m : (ℓ : Loc Cert.KernelIdeal.nD Cert.KernelIdeal.τ Cert.KernelIdeal.sig) → Buf (Elt Ideal) ℓ)
    (h : Cert.Pre_KernelIdeal_finite_q_k m) (c : Dev Cert.KernelIdeal.nD) (i : Cert.KernelIdeal.S6x8192x2x128.Idx) :
    (show FVec Ideal Cert.KernelIdeal.S6x8192x2x128 .f32 from m ((c.tc : Thread Cert.KernelIdeal.nD Cert.KernelIdeal.τ).loc Cert.KernelIdeal.main_arg1)) i
      = (EReal.toReal ((show FVec Ideal Cert.KernelIdeal.S6x8192x2x128 .f32 from m ((c.tc : Thread Cert.KernelIdeal.nD Cert.KernelIdeal.τ).loc Cert.KernelIdeal.main_arg1)) i) : EReal) :=
  real_of_cmp _ (congrFun (h c).2 i)

end Cert.Finite

end
-- ==== Proof.State.lean ====
/- What a tile of queries carries from one pair of key chunks to the next, as plain functions of arrays. -/
module

public import proofs.«01_k».proof.Proof.Gen.KernelIdeal.Skeleton
public import Idealize.ShloMosaic.Lib.Pipeline.ValueKit

@[expose] public section

set_option maxRecDepth 16384

noncomputable section

namespace Cert.Tile

open Cert.KernelIdeal Cert.KernelIdeal.Gen
open Idealize.ShloMosaic Idealize.ShloMosaic.TcCoe

/-- Chunk `c` of the keys: 512 rows of the sequence's 8192. -/
def kChunk (x1 : Vec Ideal S8192x128 .bf16) (c : Fin 16) : Vec Ideal S512x128 .bf16 :=
  fun y => x1 (ix2 ⟨c.val * 512 + (y 0).val, by have := (y 0).isLt; have : (y 0).val < 512 := this; omega⟩ (y 1))

/-- Chunk `c` of the transposed values. -/
def vChunk (x2 : Vec Ideal S16x144x512 .bf16) (c : Fin 16) : Vec Ideal S1x144x512 .bf16 :=
  fun y => x2 (ix3 c (y 1) (y 2))

/-- The queries of tile `t`, the four heads' 256 rows stacked. -/
def stackQ (x0 : Vec Ideal S2048x512 .bf16) (t : Fin 8) : FVec Ideal S1024x128 .bf16 :=
  fun y => x0 (ix2 ⟨t.val * 256 + (y 0).val % 256, by have := t.isLt; omega⟩
    ⟨(y 0).val / 256 * 128 + (y 1).val, by
      have h0 : (y 0).val < 1024 := (y 0).isLt
      have h1 : (y 1).val < 128 := (y 1).isLt
      omega⟩)

/-- The running maximum, the accumulator and the scores waiting to be folded in. -/
abbrev St := Vec Ideal S8x1024 .f32 × Vec Ideal S144x1024 .f32 × Vec Ideal S512x1024 .f32

/-- Trip `k` folds in chunks `2k` and `2k+1` and leaves the scores of the next chunk: chunk `2k+2` of the same queries,
after the last pair chunk `w` of the queries `qn`. -/
def step (x1 : Vec Ideal S8192x128 .bf16) (x2 : Vec Ideal S16x144x512 .bf16) (q qn : FVec Ideal S1024x128 .bf16) (w : Fin 16)
    (k : Fin 8) (st : St) : St :=
  let m1 : Vec Ideal S8x1024 .f32 := k0_pay10 (F := Ideal) st.2.2 st.1
  let a1 : Vec Ideal S144x1024 .f32 := k0_pay11 (F := Ideal) st.2.2 st.1 st.2.1 (vChunk x2 ⟨2 * k.val, by omega⟩)
  let s1 : Vec Ideal S512x1024 .f32 := k0_pay9 (F := Ideal) q (kChunk x1 ⟨2 * k.val + 1, by omega⟩)
  (k0_pay10 (F := Ideal) s1 m1, k0_pay11 (F := Ideal) s1 m1 a1 (vChunk x2 ⟨2 * k.val + 1, by omega⟩),
    if h : k.val < 7 then k0_pay9 (F := Ideal) q (kChunk x1 ⟨2 * k.val + 2, by omega⟩) else k0_pay9 (F := Ideal) qn (kChunk x1 w))

/-- The state before trip `k`: the maximum at minus infinity, the accumulator zero, the first chunk's scores waiting. -/
def st (x1 : Vec Ideal S8192x128 .bf16) (x2 : Vec Ideal S16x144x512 .bf16) (q qn : FVec Ideal S1024x128 .bf16) (w : Fin 16) : ℕ → St
  | 0 => (k0_pay68 (F := Ideal), k0_pay82 (F := Ideal), k0_pay9 (F := Ideal) q (kChunk x1 0))
  | k + 1 => if h : k < 8 then step x1 x2 q qn w ⟨k, h⟩ (st x1 x2 q qn w k) else st x1 x2 q qn w k

theorem st_succ (x1 : Vec Ideal S8192x128 .bf16) (x2 : Vec Ideal S16x144x512 .bf16) (q qn : FVec Ideal S1024x128 .bf16) (w : Fin 16)
    (k : Fin 8) : st x1 x2 q qn w (k.val + 1) = step x1 x2 q qn w k (st x1 x2 q qn w k.val) := by
  rw [st]; exact dif_pos k.isLt

/-- After the last trip the scores waiting are the next tile's first. -/
theorem st_last (x1 : Vec Ideal S8192x128 .bf16) (x2 : Vec Ideal S16x144x512 .bf16) (q qn : FVec Ideal S1024x128 .bf16) (w : Fin 16) :
    (st x1 x2 q qn w 8).2.2 = k0_pay9 (F := Ideal) qn (kChunk x1 w) := by
  rw [show st x1 x2 q qn w 8 = _ from st_succ x1 x2 q qn w 7]; simp [step]

/-- The scores a tile leaves are those the next one starts from. -/
theorem st_next (x1 : Vec Ideal S8192x128 .bf16) (x2 : Vec Ideal S16x144x512 .bf16) (p q qn : FVec Ideal S1024x128 .bf16) (w : Fin 16) :
    (st x1 x2 p q 0 8).2.2 = (st x1 x2 q qn w 0).2.2 := st_last x1 x2 p q 0

/-- The next tile's queries: tile `t + 1`'s, after the last tile its own again. -/
def nextQ (x0 : Vec Ideal S2048x512 .bf16) (t : Fin 8) : FVec Ideal S1024x128 .bf16 :=
  stackQ x0 ⟨min (t.val + 1) 7, by omega⟩

/-- The accumulator tile `t` ends with. -/
def accOf (x0 : Vec Ideal S2048x512 .bf16) (x1 : Vec Ideal S8192x128 .bf16) (x2 : Vec Ideal S16x144x512 .bf16) (t : Fin 8) :
    Vec Ideal S144x1024 .f32 :=
  (st x1 x2 (stackQ x0 t) (nextQ x0 t) (if t.val = 7 then 15 else 0) 8).2.1

/-- What the kernel writes of one block of queries: row `t * 256 + r`, head `g`, lane `d` from column `g * 256 + r` of tile
`t`'s accumulator. -/
def blockOut (x0 : Vec Ideal S2048x512 .bf16) (x1 : Vec Ideal S8192x128 .bf16) (x2 : Vec Ideal S16x144x512 .bf16) :
    Vec Ideal S2048x512 .bf16 :=
  fun y => k0_pay72 (F := Ideal)
    (accOf x0 x1 x2 ⟨(y 0).val / 256, by have h : (y 0).val < 2048 := (y 0).isLt; omega⟩)
    (ix2 ⟨(y 1).val / 128 * 256 + (y 0).val % 256, by have h : (y 1).val < 512 := (y 1).isLt; omega⟩
      ⟨(y 1).val % 128, by omega⟩)

end Cert.Tile

end
-- ==== Proof.Trip.lean ====
/- One trip of a tile's loop: two chunks of keys folded into the running maximum and accumulator. -/
module

public import proofs.«01_k».proof.Proof.State
public import Idealize.ShloMosaic.Lib.Exec
public import Idealize.ShloMosaic.Lib.Tactic
public import Idealize.ShloMosaic.Lib.Pipeline.Kit
public import Idealize.ShloMosaic.Lib.Pipeline.Frame
public import Idealize.ShloMosaic.Lib.VecWindow
public import Idealize.ShloMosaic.Lib.WholeRead

@[expose] public section

set_option maxRecDepth 16384

noncomputable section

namespace Cert.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A window of 512 rows of the keys is a chunk of them. -/
theorem read_kChunk (mm : Memref sig .tc .vmem S8192x128 .bf16) (h : mm.IsWhole) (x1 : Vec Ideal S8192x128 .bf16) (c : Fin 16)
    (off : Fin 2 → ℕ) (inb : ∀ a, off a + S512x128.size a ≤ S8192x128.size a) (ho : off = ![512 * c.val, 0]) :
    View.readAt (Elt Ideal) mm.view (Rect.unit (s := S8192x128) off S512x128.size inb).toLoadRect (h.unread x1) = kChunk x1 c := by
  subst ho
  funext y
  refine (h.readAt_unread x1 _ y).trans ?_
  unfold kChunk
  congr 1
  funext a
  match a with
  | ⟨0, _⟩ => exact Fin.ext (show 512 * c.val + 1 * (y 0).val = c.val * 512 + (y 0).val by ring)
  | ⟨1, _⟩ => exact Fin.ext (show 0 + 1 * (y 1).val = (y 1).val by ring)

/-- A window of one chunk of the transposed values is that chunk. -/
theorem read_vChunk (mm : Memref sig .tc .vmem S16x144x512 .bf16) (h : mm.IsWhole) (x2 : Vec Ideal S16x144x512 .bf16) (c : Fin 16)
    (off : Fin 3 → ℕ) (inb : ∀ a, off a + S1x144x512.size a ≤ S16x144x512.size a) (ho : off = ![c.val, 0, 0]) :
    View.readAt (Elt Ideal) mm.view (Rect.unit (s := S16x144x512) off S1x144x512.size inb).toLoadRect (h.unread x2) = vChunk x2 c := by
  subst ho
  funext y
  refine (h.readAt_unread x2 _ y).trans ?_
  unfold vChunk
  congr 1
  funext a
  match a with
  | ⟨0, _⟩ => exact Fin.ext (show c.val + 1 * (y 0).val = c.val by
      have h0 : (y 0).val < 1 := (y 0).isLt
      omega)
  | ⟨1, _⟩ => exact Fin.ext (show 0 + 1 * (y 1).val = (y 1).val by ring)
  | ⟨2, _⟩ => exact Fin.ext (show 0 + 1 * (y 2).val = (y 2).val by ring)

/-- What a loop over the keys holds: keys, values, maximum, accumulator and waiting scores, and a buffer for the scores of
the odd chunks. -/
def hold (c : Dev nD) (arg4 : Memref sig .tc .vmem S8192x128 .bf16) (arg5 : Memref sig .tc .vmem S16x144x512 .bf16)
    (arg7 : Memref sig .tc .vmem S8x1024 .f32) (arg8 : Memref sig .tc .vmem S144x1024 .f32)
    (arg9 arg10 : Memref sig .tc .vmem S512x1024 .f32) (x1 : Vec Ideal S8192x128 .bf16) (x2 : Vec Ideal S16x144x512 .bf16) (S : St) :
    sProp 𝕄 :=
  iprop(owns (Val := Elt Ideal) (c : Thread nD τ) arg4 fullShare x1 ∗ owns (c : Thread nD τ) arg5 fullShare x2
    ∗ owns (c : Thread nD τ) arg7 fullShare S.1 ∗ owns (c : Thread nD τ) arg8 fullShare S.2.1
    ∗ owns (c : Thread nD τ) arg9 fullShare S.2.2 ∗ ∃ d, owns (c : Thread nD τ) arg10 fullShare d)

/-- The scores computed ahead are those of the queries selected. -/
theorem next_scores (q qn : FVec Ideal S1024x128 .bf16) (w : BitVec 32) (kc : Vec Ideal S512x128 .bf16) :
    k0_pay13 (F := Ideal) q qn w kc
      = k0_pay9 (F := Ideal) (Scalar.select (Scalar.cmpi .sge (Scalar.addi w 2#32) 16#32) qn q) kc := rfl

/-- A trip of a tile's loop takes the state one step, waiting at the end for the next tile's first chunk. -/
theorem trip (c : Dev nD) (i : grid0.Coords) (arg3 : Memref sig .tc .vmem S2048x512 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S144x1024 .f32) (harg8 : arg8.IsWhole) (arg9 : Memref sig .tc .vmem S512x1024 .f32) (harg9 : arg9.IsWhole) (arg10 : Memref sig .tc .vmem S512x1024 .f32) (harg10 : arg10.IsWhole)

    (q qn : FVec Ideal S1024x128 .bf16) (cst : Ideal .f32) (k : Fin 8) (x1 : Vec Ideal S8192x128 .bf16)
    (x2 : Vec Ideal S16x144x512 .bf16) (S : St) (E : Set ℕ) :
    hold c arg4 arg5 arg7 arg8 arg9 arg10 x1 x2 S
      ⊢ wp frame (wpE (defs₀ (F := Ideal)) Variants.none (c : Thread nD τ) none) E
          (k0_t1_body (F := Ideal) i arg3 harg3 arg4 harg4 arg5 harg5 arg6 harg6 arg7 harg7 arg8 harg8 arg9 harg9 arg10 harg10 q qn cst k ())
          (fun _ => hold c arg4 arg5 arg7 arg8 arg9 arg10 x1 x2 (step x1 x2 q qn 0 k S)) := by
  have hk : k.val < 8 := k.isLt
  obtain ⟨m, a, s⟩ := S
  unfold k0_t1_body
  simp only [k0_part1_eq_skeleton, k0_part2_eq_skeleton]
  unfold hold owns
  iintro ⟨⟨%f4, %hf4, H4⟩, ⟨%f5, %hf5, H5⟩, ⟨%f7, %hf7, H7⟩, ⟨%f8, %hf8, H8⟩, ⟨%f9, %hf9, H9⟩, ⟨%d10, %f10, -, H10⟩⟩
  obtain rfl := harg4.eq_unread hf4; obtain rfl := harg5.eq_unread hf5
  obtain rfl := harg7.eq_unread hf7; obtain rfl := harg8.eq_unread hf8; obtain rfl := harg9.eq_unread hf9
  sl_exec
  sl_step
  have h348 : trip.sl.v348 c arg4 harg4 arg10 q k x1 = k0_pay9 (F := Ideal) q (kChunk x1 ⟨2 * k.val + 1, by omega⟩) := by
    unfold trip.sl.v348 trip.sl.H10_1
    refine (View.readCov_full _ _ _ _ _).trans ?_
    rw [read_kChunk arg4 harg4 x1 ⟨2 * k.val + 1, by omega⟩ _ _ ((k0_off1_eq k).trans (by rw [show 1024 * k.val + 512 = 512 * (2 * k.val + 1) by ring]))]
  have h349 : trip.sl.v349 c arg7 harg7 arg9 harg9 m a s = k0_pay10 (F := Ideal) s m := by
    unfold trip.sl.v349 trip.sl.H7_1
    refine (View.readCov_full _ _ _ _ _).trans ?_
    unfold trip.sl.r
    rw [View.readAt_full, View.readAt_full, hf7, hf9]
    exact shapeCast_self _ _
  have h360 : trip.sl.v360 c arg5 harg5 arg7 harg7 arg8 harg8 arg9 harg9 k x2 m a s
      = k0_pay11 (F := Ideal) s m a (vChunk x2 ⟨2 * k.val, by omega⟩) := by
    unfold trip.sl.v360 trip.sl.H8_1
    refine (View.readCov_full _ _ _ _ _).trans ?_
    rw [View.readAt_full, View.readAt_full, View.readAt_full, hf7, hf8, hf9,
      read_vChunk arg5 harg5 x2 ⟨2 * k.val, by omega⟩ _ _ (k0_off2_eq k)]
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    refine (View.read_writes_full _ _ _ _ _).trans ?_

    unfold trip.sl.r_1
    rw [h348, h349]
    exact shapeCast_self _ _
  isplitl [H8]
  · iexists _; isplitr; swap; · iexact H8
    ipureintro
    refine (View.read_writes_full _ _ _ _ _).trans ?_
    unfold trip.sl.r_2
    rw [h348, h349, h360, read_vChunk arg5 harg5 x2 ⟨2 * k.val + 1, by omega⟩ _ _ (k0_off4_eq k)]
    rfl
  isplitl [H9]
  · iexists _; isplitr; swap; · iexact H9
    ipureintro
    refine (View.read_writes_full _ _ _ _ _).trans ?_
    unfold trip.sl.v296
    by_cases h7 : k.val < 7
    · rw [read_kChunk arg4 harg4 x1 ⟨2 * k.val + 2, by omega⟩ _ _ ((k0_off3_eq k).trans (by rw [if_neg (by omega)]))]
      have hw : Scalar.cmpi .sge (Scalar.addi (Scalar.muli 2#32 (trip.sl.arg11 k)) 2#32) 16#32 = 0#1 := by
        unfold trip.sl.arg11
        clear * - h7
        decide +revert +kernel
      refine (next_scores _ _ _ _).trans ?_
      rw [hw]
      simp only [step]
      rw [dif_pos h7]
      rfl
    · rw [read_kChunk arg4 harg4 x1 0 _ _ ((k0_off3_eq k).trans (by rw [if_pos (by omega)]; rfl))]
      have hw : Scalar.cmpi .sge (Scalar.addi (Scalar.muli 2#32 (trip.sl.arg11 k)) 2#32) 16#32 = 1#1 := by
        unfold trip.sl.arg11
        clear * - h7
        decide +revert +kernel
      refine (next_scores _ _ _ _).trans ?_
      rw [hw]
      simp only [step]
      rw [dif_neg h7]
      rfl
  iexists _, _; isplitr; swap; · iexact H10
  ipureintro; rfl

/-- The last tile computes ahead with its own queries. -/
theorem last_scores (q : FVec Ideal S1024x128 .bf16) (w : BitVec 32) (kc : Vec Ideal S512x128 .bf16) :
    k0_pay62 (F := Ideal) q w kc = k0_pay9 (F := Ideal) q kc := by
  have e : Scalar.select (Scalar.cmpi .sge (Scalar.addi w 2#32) 16#32) q q = q := by
    unfold Scalar.select; split <;> rfl
  exact congrArg (fun x => k0_pay9 (F := Ideal) x kc) e

/-- A trip of the last tile's loop takes the state one step; its last trip computes the scores of the last chunk once more. -/
theorem trip_last (c : Dev nD) (i : grid0.Coords) (arg3 : Memref sig .tc .vmem S2048x512 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S144x1024 .f32) (harg8 : arg8.IsWhole) (arg9 : Memref sig .tc .vmem S512x1024 .f32) (harg9 : arg9.IsWhole) (arg10 : Memref sig .tc .vmem S512x1024 .f32) (harg10 : arg10.IsWhole)

    (q : FVec Ideal S1024x128 .bf16) (k : Fin 8) (x1 : Vec Ideal S8192x128 .bf16)
    (x2 : Vec Ideal S16x144x512 .bf16) (S : St) (E : Set ℕ) :
    hold c arg4 arg5 arg7 arg8 arg9 arg10 x1 x2 S
      ⊢ wp frame (wpE (defs₀ (F := Ideal)) Variants.none (c : Thread nD τ) none) E
          (k0_t8_body (F := Ideal) i arg3 harg3 arg4 harg4 arg5 harg5 arg6 harg6 arg7 harg7 arg8 harg8 arg9 harg9 arg10 harg10 q k ())
          (fun _ => hold c arg4 arg5 arg7 arg8 arg9 arg10 x1 x2 (step x1 x2 q q 15 k S)) := by
  have hk : k.val < 8 := k.isLt
  obtain ⟨m, a, s⟩ := S
  unfold k0_t8_body
  simp only [k0_part15_eq_skeleton, k0_part16_eq_skeleton]
  unfold hold owns
  iintro ⟨⟨%f4, %hf4, H4⟩, ⟨%f5, %hf5, H5⟩, ⟨%f7, %hf7, H7⟩, ⟨%f8, %hf8, H8⟩, ⟨%f9, %hf9, H9⟩, ⟨%d10, %f10, -, H10⟩⟩
  obtain rfl := harg4.eq_unread hf4; obtain rfl := harg5.eq_unread hf5
  obtain rfl := harg7.eq_unread hf7; obtain rfl := harg8.eq_unread hf8; obtain rfl := harg9.eq_unread hf9
  sl_exec
  sl_step
  have h348 : trip_last.sl.v348 c arg4 harg4 arg10 q k x1 = k0_pay9 (F := Ideal) q (kChunk x1 ⟨2 * k.val + 1, by omega⟩) := by
    unfold trip_last.sl.v348 trip_last.sl.H10_1
    refine (View.readCov_full _ _ _ _ _).trans ?_
    rw [read_kChunk arg4 harg4 x1 ⟨2 * k.val + 1, by omega⟩ _ _ ((k0_off29_eq k).trans (by rw [show 1024 * k.val + 512 = 512 * (2 * k.val + 1) by ring]))]
    rfl
  have h349 : trip_last.sl.v349 c arg7 harg7 arg9 harg9 m a s = k0_pay10 (F := Ideal) s m := by
    unfold trip_last.sl.v349 trip_last.sl.H7_1
    refine (View.readCov_full _ _ _ _ _).trans ?_
    unfold trip_last.sl.r
    rw [View.readAt_full, View.readAt_full, hf7, hf9]
    exact shapeCast_self _ _
  have h360 : trip_last.sl.v360 c arg5 harg5 arg7 harg7 arg8 harg8 arg9 harg9 k x2 m a s
      = k0_pay11 (F := Ideal) s m a (vChunk x2 ⟨2 * k.val, by omega⟩) := by
    unfold trip_last.sl.v360 trip_last.sl.H8_1
    refine (View.readCov_full _ _ _ _ _).trans ?_
    rw [View.readAt_full, View.readAt_full, View.readAt_full, hf7, hf8, hf9,
      read_vChunk arg5 harg5 x2 ⟨2 * k.val, by omega⟩ _ _ (k0_off30_eq k)]
    rfl
  isplitl [H4]
  · iexists _; isplitr; · ipureintro; exact harg4.read_unread _
    iexact H4
  isplitl [H5]
  · iexists _; isplitr; · ipureintro; exact harg5.read_unread _
    iexact H5
  isplitl [H7]
  · iexists _; isplitr; swap; · iexact H7
    ipureintro
    refine (View.read_writes_full _ _ _ _ _).trans ?_

    unfold trip_last.sl.r_1
    rw [h348, h349]
    exact shapeCast_self _ _
  isplitl [H8]
  · iexists _; isplitr; swap; · iexact H8
    ipureintro
    refine (View.read_writes_full _ _ _ _ _).trans ?_
    unfold trip_last.sl.r_2
    rw [h348, h349, h360, read_vChunk arg5 harg5 x2 ⟨2 * k.val + 1, by omega⟩ _ _ (k0_off32_eq k)]
    rfl
  isplitl [H9]
  · iexists _; isplitr; swap; · iexact H9
    ipureintro
    refine (View.read_writes_full _ _ _ _ _).trans ?_
    unfold trip_last.sl.v296
    by_cases h7 : k.val < 7
    · rw [read_kChunk arg4 harg4 x1 ⟨2 * k.val + 2, by omega⟩ _ _ ((k0_off31_eq k).trans (by rw [if_neg (by omega)]))]
      refine (last_scores _ _ _).trans ?_
      simp only [step]
      rw [dif_pos h7]
    · rw [read_kChunk arg4 harg4 x1 15 _ _ ((k0_off31_eq k).trans (by rw [if_pos (by omega)]; rfl))]
      refine (last_scores _ _ _).trans ?_
      simp only [step]
      rw [dif_neg h7]
  iexists _, _; isplitr; swap; · iexact H10
  ipureintro; rfl

end Cert.Tile

end
-- ==== Proof.Pieces.lean ====
/- The pieces a block's result is written in: one head of one tile of queries each. -/
module

public import proofs.«01_k».proof.Proof.State
public import Idealize.ShloMosaic.Lib.Writes
public import Idealize.ShloMosaic.Lib.WholeRead
public import Idealize.ShloMosaic.Lib.VecWindow

@[expose] public section

set_option maxRecDepth 16384

noncomputable section

namespace Cert.Tile

open Cert.KernelIdeal Cert.KernelIdeal.Gen
open Idealize.ShloMosaic Idealize.ShloMosaic.TcCoe

/-- Four windows of 256 rows, one per head, stacked, are a tile's queries. -/
theorem stack_read (mm : Memref sig .tc .vmem S2048x512 .bf16) (h : mm.IsWhole) (x0 : Vec Ideal S2048x512 .bf16) (t : Fin 8)
    (o : ℕ) (ho : o = t.val * 256) (i0 : ∀ a, ![o, 0] a + S256x128.size a ≤ S2048x512.size a)
    (i1 : ∀ a, ![o, 128] a + S256x128.size a ≤ S2048x512.size a) (i2 : ∀ a, ![o, 256] a + S256x128.size a ≤ S2048x512.size a)
    (i3 : ∀ a, ![o, 384] a + S256x128.size a ≤ S2048x512.size a) :
    k0_pay65 (F := Ideal)
      (View.readAt (Elt Ideal) mm.view (Rect.unit (s := S2048x512) ![o, 0] S256x128.size i0).toLoadRect (h.unread x0))
      (View.readAt (Elt Ideal) mm.view (Rect.unit (s := S2048x512) ![o, 128] S256x128.size i1).toLoadRect (h.unread x0))
      (View.readAt (Elt Ideal) mm.view (Rect.unit (s := S2048x512) ![o, 256] S256x128.size i2).toLoadRect (h.unread x0))
      (View.readAt (Elt Ideal) mm.view (Rect.unit (s := S2048x512) ![o, 384] S256x128.size i3).toLoadRect (h.unread x0))
      = stackQ x0 t := by
  subst ho
  funext y
  have hy0 : (y 0).val < 1024 := (y 0).isLt
  have hy1 : (y 1).val < 128 := (y 1).isLt
  have inb : ∀ g : Fin 4, ∀ a, ![t.val * 256, g.val * 128] a + S256x128.size a ≤ S2048x512.size a := by
    intro g a
    match a with
    | ⟨0, _⟩ => show t.val * 256 + 256 ≤ 2048; omega
    | ⟨1, _⟩ => show g.val * 128 + 128 ≤ 512; omega
  let f : Fin 4 → S256x128.Idx → Elt Ideal .bf16 := fun g =>
    View.readAt (Elt Ideal) mm.view (Rect.unit (s := S2048x512) ![t.val * 256, g.val * 128] S256x128.size (inb g)).toLoadRect (h.unread x0)
  unfold k0_pay65
  simp only [shapeCast_self]
  refine (concatenate_ofFn_apply (t := S1024x128) (s₁ := S256x128) 0 f concatenates_S256x128_S256x128_S256x128_S256x128_S1024x128_d0 rfl 256 rfl y
    ⟨(y 0).val / 256, by omega⟩ rfl (ix2 ⟨(y 0).val % 256, by omega⟩ (y 1)) rfl ?_).trans ?_
  · intro b hb
    match b with
    | ⟨0, _⟩ => exact absurd rfl hb
    | ⟨1, _⟩ => rfl
  · refine (h.readAt_unread x0 _ _).trans ?_
    unfold stackQ
    congr 1
    funext a
    match a with
    | ⟨0, _⟩ => exact Fin.ext (show t.val * 256 + 1 * ((y 0).val % 256) = t.val * 256 + (y 0).val % 256 by ring)
    | ⟨1, _⟩ => exact Fin.ext (show (y 0).val / 256 * 128 + 1 * (y 1).val = (y 0).val / 256 * 128 + (y 1).val by ring)

/-- One head's rows of a tile's quotient are the block's result there. -/
theorem piece (mm : Memref sig .tc .vmem S144x1024 .f32) (h : mm.IsWhole) (x0 : Vec Ideal S2048x512 .bf16) (x1 : Vec Ideal S8192x128 .bf16)
    (x2 : Vec Ideal S16x144x512 .bf16) (t : Fin 8) (g : Fin 4) (o0 o1 o2 : ℕ) (h0 : o0 = t.val * 256) (h1 : o1 = g.val * 128)
    (h2 : o2 = g.val * 256) (q qn : FVec Ideal S1024x128 .bf16) (w : Fin 16) (hq : q = stackQ x0 t) (hqn : qn = nextQ x0 t)
    (hw : w = if t.val = 7 then 15 else 0) (inb : ∀ a, ![o0, o1] a + S256x128.size a ≤ S2048x512.size a)
    (inb8 : ∀ a, ![0, 0] a + S144x1024.size a ≤ S144x1024.size a) (sl : S1024x128.Slices ![o2, 0] S256x128) (x : S256x128.Idx) :
    extractStridedSlice S256x128 ![o2, 0] (k0_pay72 (F := Ideal) (View.readAt (Elt Ideal) mm.view
        (Rect.unit (s := S144x1024) ![0, 0] S144x1024.size inb8).toLoadRect (h.unread (st x1 x2 q qn w 8).2.1))) sl x
      = blockOut x0 x1 x2 ((Rect.unit (s := S2048x512) ![o0, o1] S256x128.size inb).emb x) := by
  subst h0 h1 h2 hq hqn hw
  have hx0 : (x 0).val < 256 := (x 0).isLt
  have hx1 : (x 1).val < 128 := (x 1).isLt
  rw [show View.readAt (Elt Ideal) mm.view (Rect.unit (s := S144x1024) ![0, 0] S144x1024.size inb8).toLoadRect
      (h.unread (st x1 x2 (stackQ x0 t) (nextQ x0 t) (if t.val = 7 then 15 else 0) 8).2.1) = accOf x0 x1 x2 t from
    (View.readAt_full _ _ inb8).trans (h.read_unread _)]
  unfold blockOut
  have e : (⟨(t.val * 256 + 1 * (x 0).val) / 256, by omega⟩ : Fin 8) = t := Fin.ext (by show (t.val * 256 + 1 * (x 0).val) / 256 = t.val; omega)
  show k0_pay72 (F := Ideal) (accOf x0 x1 x2 t) _ = k0_pay72 (F := Ideal) (accOf x0 x1 x2 ⟨(t.val * 256 + 1 * (x 0).val) / 256, _⟩) _
  rw [e]
  congr 1
  funext a
  match a with
  | ⟨0, _⟩ => exact Fin.ext (show g.val * 256 + (x 0).val = (g.val * 128 + 1 * (x 1).val) / 128 * 256 + (t.val * 256 + 1 * (x 0).val) % 256 by omega)
  | ⟨1, _⟩ => exact Fin.ext (show 0 + (x 1).val = (g.val * 128 + 1 * (x 1).val) % 128 by omega)

/-- The same, the tile and the head found from the piece's corner. -/
theorem piece_at (mm : Memref sig .tc .vmem S144x1024 .f32) (h : mm.IsWhole) (x0 : Vec Ideal S2048x512 .bf16) (x1 : Vec Ideal S8192x128 .bf16)
    (x2 : Vec Ideal S16x144x512 .bf16) (o0 o1 o2 : ℕ) (b0 : o0 < 2048) (b1 : o1 < 512) (m0 : o0 % 256 = 0) (m1 : o1 % 128 = 0)
    (h2 : o2 = o1 / 128 * 256) (q qn : FVec Ideal S1024x128 .bf16) (w : Fin 16) (hq : q = stackQ x0 ⟨o0 / 256, by omega⟩)
    (hqn : qn = stackQ x0 ⟨min (o0 / 256 + 1) 7, by omega⟩) (hw : w = if o0 / 256 = 7 then 15 else 0)
    (inb : ∀ a, ![o0, o1] a + S256x128.size a ≤ S2048x512.size a)
    (inb8 : ∀ a, ![0, 0] a + S144x1024.size a ≤ S144x1024.size a) (sl : S1024x128.Slices ![o2, 0] S256x128) (x : S256x128.Idx) :
    extractStridedSlice S256x128 ![o2, 0] (k0_pay72 (F := Ideal) (View.readAt (Elt Ideal) mm.view
        (Rect.unit (s := S144x1024) ![0, 0] S144x1024.size inb8).toLoadRect (h.unread (st x1 x2 q qn w 8).2.1))) sl x
      = blockOut x0 x1 x2 ((Rect.unit (s := S2048x512) ![o0, o1] S256x128.size inb).emb x) :=
  piece mm h x0 x1 x2 ⟨o0 / 256, by omega⟩ ⟨o1 / 128, by omega⟩ o0 o1 o2 (by show o0 = o0 / 256 * 256; omega)
    (by show o1 = o1 / 128 * 128; omega) h2 q qn w hq hqn hw inb inb8 sl x

/-- A position's piece is the first of a list of pieces or among the others: pieces are numbered four to a tile. -/
theorem cover_cons (o0 o1 m : ℕ) (hm : o0 / 256 * 4 + o1 / 128 = m) (h0 : o0 % 256 = 0) (h1 : o1 % 128 = 0) (h1' : o1 < 512)
    (inb : ∀ a, ![o0, o1] a + S256x128.size a ≤ S2048x512.size a) (pay : S256x128.Idx → Elt Ideal .bf16)
    (L : List (View.Piece (Elt Ideal) S2048x512 .bf16)) (y : S2048x512.Idx)
    (h : (y 0).val / 256 * 4 + (y 1).val / 128 ≠ m → ∃ p ∈ L, y ∈ p.1.set) :
    ∃ p ∈ (⟨Rect.unit (s := S2048x512) ![o0, o1] S256x128.size inb, pay⟩ : View.Piece (Elt Ideal) S2048x512 .bf16) :: L, y ∈ p.1.set := by
  by_cases hy : (y 0).val / 256 * 4 + (y 1).val / 128 = m
  · refine ⟨_, List.mem_cons_self, ?_⟩
    have hy1 : (y 1).val < 512 := (y 1).isLt
    refine (Rect.mem_set_unit (inb := inb)).2 fun a => ?_
    match a with
    | ⟨0, _⟩ => show o0 ≤ (y 0).val ∧ (y 0).val < o0 + 256; omega
    | ⟨1, _⟩ => show o1 ≤ (y 1).val ∧ (y 1).val < o1 + 128; omega
  · obtain ⟨p, hp, hs⟩ := h hy
    exact ⟨p, List.mem_cons_of_mem _ hp, hs⟩

end Cert.Tile

end
-- ==== Proof.Run.lean ====
/- One block of queries: the kernel's body run tile by tile. -/
module

public import proofs.«01_k».proof.Proof.Trip
public import proofs.«01_k».proof.Proof.Pieces
public import Idealize.ShloMosaic.Lib.Exec
public import Idealize.ShloMosaic.Lib.Tactic
public import Idealize.ShloMosaic.Lib.Tactic.Stretches
public import Idealize.ShloMosaic.Lib.Writes
public import Idealize.ShloMosaic.Lib.Pipeline.Kit
public import Idealize.ShloMosaic.Lib.Pipeline.Frame
public import Idealize.ShloMosaic.Lib.VecWindow
public import Idealize.ShloMosaic.Lib.WholeRead

@[expose] public section

set_option maxRecDepth 65536

noncomputable section

namespace Cert.Tile

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

section

variable (i : grid0.Coords) (arg3 : Memref sig .tc .vmem S2048x512 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S144x1024 .f32) (harg8 : arg8.IsWhole) (arg9 : Memref sig .tc .vmem S512x1024 .f32) (harg9 : arg9.IsWhole) (arg10 : Memref sig .tc .vmem S512x1024 .f32) (harg10 : arg10.IsWhole)

/-- Loop 2 is the first loop over other queries. -/
theorem loop2_eq q v1 v2 v3 v4 :
    Scf.Loop.for k0_t2_loop k0_t2_ok ⟨⟩ (k0_t2_body (F := Ideal) i arg3 harg3 arg4 harg4 arg5 harg5 arg6 harg6 arg7 harg7 arg8 harg8 arg9 harg9 arg10 harg10 q v1 v2 v3 v4)
      = Scf.Loop.for k0_t1_loop k0_t1_ok ⟨⟩ (k0_t1_body (F := Ideal) i arg3 harg3 arg4 harg4 arg5 harg5 arg6 harg6 arg7 harg7 arg8 harg8 arg9 harg9 arg10 harg10 q (k0_pay80 v1 v2 v3 v4) (Scalar.ofBits .f32 0x00000000#32)) := rfl

/-- Loop 3 is the first loop over other queries. -/
theorem loop3_eq q v1 v2 v3 v4 :
    Scf.Loop.for k0_t3_loop k0_t3_ok ⟨⟩ (k0_t3_body (F := Ideal) i arg3 harg3 arg4 harg4 arg5 harg5 arg6 harg6 arg7 harg7 arg8 harg8 arg9 harg9 arg10 harg10 q v1 v2 v3 v4)
      = Scf.Loop.for k0_t1_loop k0_t1_ok ⟨⟩ (k0_t1_body (F := Ideal) i arg3 harg3 arg4 harg4 arg5 harg5 arg6 harg6 arg7 harg7 arg8 harg8 arg9 harg9 arg10 harg10 q (k0_pay91 v1 v2 v3 v4) (Scalar.ofBits .f32 0x00000000#32)) := rfl

/-- Loop 4 is the first loop over other queries. -/
theorem loop4_eq q v0 v5 v1 v2 v3 v4 :
    Scf.Loop.for k0_t4_loop k0_t4_ok ⟨⟩ (k0_t4_body (F := Ideal) i arg3 harg3 arg4 harg4 arg5 harg5 arg6 harg6 arg7 harg7 arg8 harg8 arg9 harg9 arg10 harg10 q v0 v5 v1 v2 v3 v4)
      = Scf.Loop.for k0_t1_loop k0_t1_ok ⟨⟩ (k0_t1_body (F := Ideal) i arg3 harg3 arg4 harg4 arg5 harg5 arg6 harg6 arg7 harg7 arg8 harg8 arg9 harg9 arg10 harg10 q (k0_pay101 v1 v2 v3 v4) (Scalar.ofBits .f32 0x00000000#32)) := rfl

/-- Loop 5 is the first loop over other queries. -/
theorem loop5_eq q v0 v1 v2 v3 v4 :
    Scf.Loop.for k0_t5_loop k0_t5_ok ⟨⟩ (k0_t5_body (F := Ideal) i arg3 harg3 arg4 harg4 arg5 harg5 arg6 harg6 arg7 harg7 arg8 harg8 arg9 harg9 arg10 harg10 q v0 v1 v2 v3 v4)
      = Scf.Loop.for k0_t1_loop k0_t1_ok ⟨⟩ (k0_t1_body (F := Ideal) i arg3 harg3 arg4 harg4 arg5 harg5 arg6 harg6 arg7 harg7 arg8 harg8 arg9 harg9 arg10 harg10 q (k0_pay111 v1 v2 v3 v4) (Scalar.ofBits .f32 0x00000000#32)) := rfl

/-- Loop 6 is the first loop over other queries. -/
theorem loop6_eq q v1 v2 :
    Scf.Loop.for k0_t6_loop k0_t6_ok ⟨⟩ (k0_t6_body (F := Ideal) i arg3 harg3 arg4 harg4 arg5 harg5 arg6 harg6 arg7 harg7 arg8 harg8 arg9 harg9 arg10 harg10 q v1 v2)
      = Scf.Loop.for k0_t1_loop k0_t1_ok ⟨⟩ (k0_t1_body (F := Ideal) i arg3 harg3 arg4 harg4 arg5 harg5 arg6 harg6 arg7 harg7 arg8 harg8 arg9 harg9 arg10 harg10 q v1 (Scalar.ofBits .f32 0x00000000#32)) := rfl

/-- Loop 7 is the first loop over other queries. -/
theorem loop7_eq q v1 v2 :
    Scf.Loop.for k0_t7_loop k0_t7_ok ⟨⟩ (k0_t7_body (F := Ideal) i arg3 harg3 arg4 harg4 arg5 harg5 arg6 harg6 arg7 harg7 arg8 harg8 arg9 harg9 arg10 harg10 q v1 v2)
      = Scf.Loop.for k0_t1_loop k0_t1_ok ⟨⟩ (k0_t1_body (F := Ideal) i arg3 harg3 arg4 harg4 arg5 harg5 arg6 harg6 arg7 harg7 arg8 harg8 arg9 harg9 arg10 harg10 q v1 (Scalar.ofBits .f32 0x00000000#32)) := rfl

end

/-- What a loop holds, over the buffers' contents. -/
def holdAt (c : Dev nD) (arg4 : Memref sig .tc .vmem S8192x128 .bf16) (arg5 : Memref sig .tc .vmem S16x144x512 .bf16)
    (arg7 : Memref sig .tc .vmem S8x1024 .f32) (arg8 : Memref sig .tc .vmem S144x1024 .f32)
    (arg9 arg10 : Memref sig .tc .vmem S512x1024 .f32) (f4 : arg4.view.ty.Contents (Elt Ideal)) (f5 : arg5.view.ty.Contents (Elt Ideal))
    (f7 : arg7.view.ty.Contents (Elt Ideal)) (f8 : arg8.view.ty.Contents (Elt Ideal)) (f9 : arg9.view.ty.Contents (Elt Ideal))
    (f10 : arg10.view.ty.Contents (Elt Ideal)) : sProp 𝕄 :=
  iprop((arg4.view.loc (c : Thread nD τ) ↦[arg4.view.set]{fullShare} f4) ∗ (arg5.view.loc (c : Thread nD τ) ↦[arg5.view.set]{fullShare} f5)
    ∗ (arg7.view.loc (c : Thread nD τ) ↦[arg7.view.set]{fullShare} f7) ∗ (arg8.view.loc (c : Thread nD τ) ↦[arg8.view.set]{fullShare} f8)
    ∗ (arg9.view.loc (c : Thread nD τ) ↦[arg9.view.set]{fullShare} f9) ∗ (arg10.view.loc (c : Thread nD τ) ↦[arg10.view.set]{fullShare} f10))

/-- A specification over the held arrays, over the buffers' contents. -/
theorem at_contents (c : Dev nD) {arg4 : Memref sig .tc .vmem S8192x128 .bf16} (harg4 : arg4.IsWhole)
    {arg5 : Memref sig .tc .vmem S16x144x512 .bf16} (harg5 : arg5.IsWhole) {arg7 : Memref sig .tc .vmem S8x1024 .f32} (harg7 : arg7.IsWhole)
    {arg8 : Memref sig .tc .vmem S144x1024 .f32} (harg8 : arg8.IsWhole) {arg9 arg10 : Memref sig .tc .vmem S512x1024 .f32}
    (harg9 : arg9.IsWhole) (harg10 : arg10.IsWhole) {x1 : Vec Ideal S8192x128 .bf16} {x2 : Vec Ideal S16x144x512 .bf16} {S S' : St}
    {f7 : arg7.view.ty.Contents (Elt Ideal)} {f8 : arg8.view.ty.Contents (Elt Ideal)} {f9 : arg9.view.ty.Contents (Elt Ideal)}
    {f10 : arg10.view.ty.Contents (Elt Ideal)} {E : Set ℕ} {α : Type} {p : Prog (TpuEff nD τ sig (Elt Ideal) Λ₀ .tc) α}
    (hp : hold c arg4 arg5 arg7 arg8 arg9 arg10 x1 x2 S
      ⊢ wp frame (wpE (defs₀ (F := Ideal)) Variants.none (c : Thread nD τ) none) E p
          (fun _ => hold c arg4 arg5 arg7 arg8 arg9 arg10 x1 x2 S'))
    (h7 : View.read (Elt Ideal) arg7.view f7 = S.1) (h8 : View.read (Elt Ideal) arg8.view f8 = S.2.1)
    (h9 : View.read (Elt Ideal) arg9.view f9 = S.2.2) :
    holdAt c arg4 arg5 arg7 arg8 arg9 arg10 (harg4.unread x1) (harg5.unread x2) f7 f8 f9 f10
      ⊢ wp frame (wpE (defs₀ (F := Ideal)) Variants.none (c : Thread nD τ) none) E p
          (fun _ => iprop(∃ f, holdAt c arg4 arg5 arg7 arg8 arg9 arg10 (harg4.unread x1) (harg5.unread x2) (harg7.unread S'.1)
            (harg8.unread S'.2.1) (harg9.unread S'.2.2) f)) := by
  refine .trans ?_ (hp.trans (wp_mono _ _ _ fun _ => ?_))
  · unfold holdAt hold owns
    iintro ⟨H4, H5, H7, H8, H9, H10⟩
    isplitl [H4]
    · iexists _; isplitr; · ipureintro; exact harg4.read_unread _
      iexact H4
    isplitl [H5]
    · iexists _; isplitr; · ipureintro; exact harg5.read_unread _
      iexact H5
    isplitl [H7]
    · iexists _; isplitr; · ipureintro; exact h7
      iexact H7
    isplitl [H8]
    · iexists _; isplitr; · ipureintro; exact h8
      iexact H8
    isplitl [H9]
    · iexists _; isplitr; · ipureintro; exact h9
      iexact H9
    iexists _, _; isplitr; swap; · iexact H10
    ipureintro; rfl
  · unfold holdAt hold owns
    iintro ⟨⟨%f4, %hf4, H4⟩, ⟨%f5, %hf5, H5⟩, ⟨%f7, %hf7, H7⟩, ⟨%f8, %hf8, H8⟩, ⟨%f9, %hf9, H9⟩, ⟨%d10, %f10, -, H10⟩⟩
    obtain rfl := harg4.eq_unread hf4; obtain rfl := harg5.eq_unread hf5
    obtain rfl := harg7.eq_unread hf7; obtain rfl := harg8.eq_unread hf8; obtain rfl := harg9.eq_unread hf9
    iexists f10
    iframe

/-- A tile's loop folds in all sixteen chunks. -/
theorem loop (c : Dev nD) (i : grid0.Coords) (arg3 : Memref sig .tc .vmem S2048x512 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S144x1024 .f32) (harg8 : arg8.IsWhole) (arg9 : Memref sig .tc .vmem S512x1024 .f32) (harg9 : arg9.IsWhole) (arg10 : Memref sig .tc .vmem S512x1024 .f32) (harg10 : arg10.IsWhole)
    (q qn : FVec Ideal S1024x128 .bf16) (cst : Ideal .f32) (x1 : Vec Ideal S8192x128 .bf16)
    (x2 : Vec Ideal S16x144x512 .bf16) (E : Set ℕ) :
    hold c arg4 arg5 arg7 arg8 arg9 arg10 x1 x2 (st x1 x2 q qn 0 0)
      ⊢ wp frame (wpE (defs₀ (F := Ideal)) Variants.none (c : Thread nD τ) none) E
          (Scf.Loop.for k0_t1_loop k0_t1_ok ⟨⟩ (k0_t1_body (F := Ideal) i arg3 harg3 arg4 harg4 arg5 harg5 arg6 harg6 arg7 harg7 arg8 harg8 arg9 harg9 arg10 harg10 q qn cst))
          (fun _ => hold c arg4 arg5 arg7 arg8 arg9 arg10 x1 x2 (st x1 x2 q qn 0 8)) := by
  refine .trans ?_ (Scf.wp_for frame (wpE (defs₀ (F := Ideal)) Variants.none (c : Thread nD τ) none) E k0_t1_loop.lb k0_t1_loop.ub
    k0_t1_loop.st k0_t1_ok () (k0_t1_body (F := Ideal) i arg3 harg3 arg4 harg4 arg5 harg5 arg6 harg6 arg7 harg7 arg8 harg8 arg9 harg9 arg10 harg10 q qn cst)
    (fun k _ => hold c arg4 arg5 arg7 arg8 arg9 arg10 x1 x2 (st x1 x2 q qn 0 k)) fun k _ => ?_)
  · iintro H
    isplitl [H]
    · iexact H
    iintro %_ H
    iexact H
  have h := trip c i arg3 harg3 arg4 harg4 arg5 harg5 arg6 harg6 arg7 harg7 arg8 harg8 arg9 harg9 arg10 harg10 q qn cst k x1 x2 (st x1 x2 q qn 0 k.val) E
  rw [← st_succ x1 x2 q qn 0 k] at h
  exact h

/-- The first scores, from the window of the first chunk of keys. -/
theorem first_scores (mm : Memref sig .tc .vmem S8192x128 .bf16) (h : mm.IsWhole) (x1 : Vec Ideal S8192x128 .bf16)
    (v0 v2 v4 v6 : Vec Ideal S256x128 .bf16) :
    k0_pay66 (F := Ideal) v0 v2 v4 v6 (View.readAt (Elt Ideal) mm.view
        (Rect.unit (s := S8192x128) ![0, 0] S512x128.size inb_S8192x128_S512x128_0_0).toLoadRect (h.unread x1))
      = k0_pay9 (F := Ideal) (k0_pay65 v0 v2 v4 v6) (kChunk x1 0) := by
  exact congrArg (fun v => k0_pay66 (F := Ideal) v0 v2 v4 v6 v) (read_kChunk mm h x1 0 _ _ rfl)

/-- The last tile's loop folds in all sixteen chunks. -/
theorem loop_last (c : Dev nD) (i : grid0.Coords) (arg3 : Memref sig .tc .vmem S2048x512 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S144x1024 .f32) (harg8 : arg8.IsWhole) (arg9 : Memref sig .tc .vmem S512x1024 .f32) (harg9 : arg9.IsWhole) (arg10 : Memref sig .tc .vmem S512x1024 .f32) (harg10 : arg10.IsWhole)
    (q : FVec Ideal S1024x128 .bf16) (x1 : Vec Ideal S8192x128 .bf16)
    (x2 : Vec Ideal S16x144x512 .bf16) (E : Set ℕ) :
    hold c arg4 arg5 arg7 arg8 arg9 arg10 x1 x2 (st x1 x2 q q 15 0)
      ⊢ wp frame (wpE (defs₀ (F := Ideal)) Variants.none (c : Thread nD τ) none) E
          (Scf.Loop.for k0_t8_loop k0_t8_ok ⟨⟩ (k0_t8_body (F := Ideal) i arg3 harg3 arg4 harg4 arg5 harg5 arg6 harg6 arg7 harg7 arg8 harg8 arg9 harg9 arg10 harg10 q))
          (fun _ => hold c arg4 arg5 arg7 arg8 arg9 arg10 x1 x2 (st x1 x2 q q 15 8)) := by
  refine .trans ?_ (Scf.wp_for frame (wpE (defs₀ (F := Ideal)) Variants.none (c : Thread nD τ) none) E k0_t8_loop.lb k0_t8_loop.ub
    k0_t8_loop.st k0_t8_ok () (k0_t8_body (F := Ideal) i arg3 harg3 arg4 harg4 arg5 harg5 arg6 harg6 arg7 harg7 arg8 harg8 arg9 harg9 arg10 harg10 q)
    (fun k _ => hold c arg4 arg5 arg7 arg8 arg9 arg10 x1 x2 (st x1 x2 q q 15 k)) fun k _ => ?_)
  · iintro H
    isplitl [H]
    · iexact H
    iintro %_ H
    iexact H
  have h := trip_last c i arg3 harg3 arg4 harg4 arg5 harg5 arg6 harg6 arg7 harg7 arg8 harg8 arg9 harg9 arg10 harg10 q k x1 x2 (st x1 x2 q q 15 k.val) E
  rw [← st_succ x1 x2 q q 15 k] at h
  exact h

set_option maxHeartbeats 4000000 in
/-- The body, from a block of queries, all keys and all values, leaves the block's result. -/
theorem run (c : Dev nD) (i : grid0.Coords) (arg3 : Memref sig .tc .vmem S2048x512 .bf16) (harg3 : arg3.IsWhole) (arg4 : Memref sig .tc .vmem S8192x128 .bf16) (harg4 : arg4.IsWhole) (arg5 : Memref sig .tc .vmem S16x144x512 .bf16) (harg5 : arg5.IsWhole) (arg6 : Memref sig .tc .vmem S2048x512 .bf16) (harg6 : arg6.IsWhole) (arg7 : Memref sig .tc .vmem S8x1024 .f32) (harg7 : arg7.IsWhole) (arg8 : Memref sig .tc .vmem S144x1024 .f32) (harg8 : arg8.IsWhole) (arg9 : Memref sig .tc .vmem S512x1024 .f32) (harg9 : arg9.IsWhole) (arg10 : Memref sig .tc .vmem S512x1024 .f32) (harg10 : arg10.IsWhole)
    (x0 : Vec Ideal S2048x512 .bf16) (x1 : Vec Ideal S8192x128 .bf16) (x2 : Vec Ideal S16x144x512 .bf16) (E : Set ℕ)
    (K : PUnit → sProp 𝕄) :
    iprop(owns (Val := Elt Ideal) (c : Thread nD τ) arg3 fullShare x0 ∗ owns (c : Thread nD τ) arg4 fullShare x1
        ∗ owns (c : Thread nD τ) arg5 fullShare x2 ∗ (∃ d, owns (c : Thread nD τ) arg6 fullShare d)
        ∗ (∃ d, owns (c : Thread nD τ) arg7 fullShare d) ∗ (∃ d, owns (c : Thread nD τ) arg8 fullShare d)
        ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1
            ∗ owns (c : Thread nD τ) arg5 fullShare x2 ∗ owns (c : Thread nD τ) arg6 fullShare (blockOut x0 x1 x2)
            ∗ (∃ d, owns (c : Thread nD τ) arg7 fullShare d) ∗ (∃ d, owns (c : Thread nD τ) arg8 fullShare d)
            ∗ (∃ d, owns (c : Thread nD τ) arg9 fullShare d) ∗ (∃ d, owns (c : Thread nD τ) arg10 fullShare d)) -∗ K ⟨⟩))
      ⊢ wp frame (wpE (defs₀ (F := Ideal)) Variants.none c none) E (cc0_attn_global (F := Ideal) i arg3 harg3 arg4 harg4 arg5 harg5 arg6 harg6 arg7 harg7 arg8 harg8 arg9 harg9 arg10 harg10) K := by
  simp only [cc0_attn_global_eq_skeleton]; unfold cc0_attn_global_skel
  simp only [k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hk⟩
  obtain rfl := harg3.eq_unread hf0; obtain rfl := harg4.eq_unread hf1; obtain rfl := harg5.eq_unread hf2
  sl_exec
  iterate 7
    (simp only [loop2_eq, loop3_eq, loop4_eq, loop5_eq, loop6_eq, loop7_eq]
     iapply (exec_cut _ _ _ (at_contents c harg4 harg5 harg7 harg8 harg9 harg10 (loop c i arg3 harg3 arg4 harg4 arg5 harg5 arg6 harg6 arg7 harg7 arg8 harg8 arg9 harg9 arg10 harg10 _ _ _ x1 x2 E) ?_ ?_ ?_)) $$ [H1 H2 HS0 HS1 HS2 HS3]
     pick_goal 4
     · unfold holdAt
       isplitl [H1]; · iexact H1
       isplitl [H2]; · iexact H2
       isplitl [HS0]; · iexact HS0
       isplitl [HS1]; · iexact HS1
       isplitl [HS2]; · iexact HS2
       iexact HS3
     · sl_open_run; exact View.read_writes_full _ _ _ _ _
     · sl_open_run; exact View.read_writes_full _ _ _ _ _
     · first | (rw [harg9.read_unread]; exact st_next _ _ _ _ _ _) | (sl_open_run; exact (View.read_writes_full _ _ _ _ _).trans (first_scores _ harg4 x1 _ _ _ _))
     iintro %_ ⟨%_, H⟩
     unfold holdAt
     icases H with ⟨H1, H2, HS0, HS1, HS2, HS3⟩
     sl_exec)
  iapply (exec_cut _ _ _ (at_contents c harg4 harg5 harg7 harg8 harg9 harg10 (loop_last c i arg3 harg3 arg4 harg4 arg5 harg5 arg6 harg6 arg7 harg7 arg8 harg8 arg9 harg9 arg10 harg10 _ x1 x2 E) ?_ ?_ ?_)) $$ [H1 H2 HS0 HS1 HS2 HS3]
  pick_goal 4
  · unfold holdAt
    isplitl [H1]; · iexact H1
    isplitl [H2]; · iexact H2
    isplitl [HS0]; · iexact HS0
    isplitl [HS1]; · iexact HS1
    isplitl [HS2]; · iexact HS2
    iexact HS3
  · sl_open_run; exact View.read_writes_full _ _ _ _ _
  · sl_open_run; exact View.read_writes_full _ _ _ _ _
  · first | (rw [harg9.read_unread]; exact st_next _ _ _ _ _ _) | (sl_open_run; exact (View.read_writes_full _ _ _ _ _).trans (first_scores _ harg4 x1 _ _ _ _))
  iintro %_ ⟨%_, H⟩
  unfold holdAt
  icases H with ⟨H1, H2, HS0, HS1, HS2, HS3⟩
  sl_exec
  · sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; swap; · iexact H3
      ipureintro
      funext y
      sl_open_run
      clear * -
      refine View.read_writes_apply_of_pieces _ _ (blockOut x0 x1 x2) _ ?_ y ?_
      · iterate 32
          (refine List.forall_mem_cons.2 ⟨fun x => ?_, ?_⟩
           · refine piece_at arg8 harg8 x0 x1 x2 _ _ _ ?_ ?_ ?_ ?_ ?_ _ _ _ ?_ ?_ ?_ ?_ _ ?_ x
             · decide
             · decide
             · decide
             · decide
             · decide
             · refine stack_read arg3 harg3 x0 _ _ ?_ _ _ _ _; decide
             · refine stack_read arg3 harg3 x0 _ _ ?_ _ _ _ _; decide
             · rfl
             · decide
             · decide)
        exact List.forall_mem_nil _
      · have hn : (y 0).val / 256 * 4 + (y 1).val / 128 < 32 := by
          have h0 : (y 0).val < 2048 := (y 0).isLt
          have h1 : (y 1).val < 512 := (y 1).isLt
          omega
        iterate 32 refine cover_cons _ _ _ rfl rfl rfl (by decide) _ _ _ y fun _ => ?_
        exfalso
        generalize (y 0).val / 256 * 4 + (y 1).val / 128 = n at *
        interval_cases n <;> contradiction
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    iexists _, _; isplitr; swap; · iexact HS3
    ipureintro; rfl
end Cert.Tile

end
-- ==== Proof.Flow.lean ====
/- The pipeline around the body: every block's result written back, the arguments left alone. -/
module

public import proofs.«01_k».proof.Proof.Run
public import proofs.«01_k».proof.Proof.Gen.KernelIdeal.Frame.Runs
public import Idealize.ShloMosaic.Lib.Claim

@[expose] public section

set_option maxRecDepth 16384

noncomputable section

namespace Cert.Flow

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- What the body leaves at a grid point: the block's result from the point's blocks of queries, keys and values. -/
def outAt (c : Dev nD) (t : Fin cfg0.N) : Vec Ideal S2048x512 .bf16 :=
  Tile.blockOut (X0_0 m c t) (iblk m c 1 t) (iblk m c 2 t)

/-- The pipeline's data: the arrays as the region finds them, each input's buffer left as fetched, the output's at `outAt`. -/
def dats (_ : Fin 1) (c : Dev nD) : Dat τ (Elt Ideal) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => outAt m c t
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = X0_0 m c t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = outAt m c t := by dsimp only [dats]

/-- Each input's buffer holds its block whenever the body runs. -/
theorem before_0 (c : Dev nD) (t : Fin cfg0.N) (d) : (dats m 0 c).before 0 t d = X0_0 m c t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d

/-- What the body is handed at a point, window by window. -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- What it hands back. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

set_option maxHeartbeats 800000 in
/-- The body at a point, from `Tile.run`. -/
theorem sound_body (c : Dev nD) (t : Fin cfg0.N) :
    bodyPre m c t ⊢ wp frame (wpE (defs₀ (F := Ideal)) Variants.none c none) Set.univ (bodyAt0 (F := Ideal) t) (fun _ => bodyPost m c t) := by
  unfold bodyPre bodyPost bodyAt0
  simp only [before_0, before_1, before_2]
  rw [show (dats m 0 c).Φ t.succ = (dats m 0 c).Φ t.castSucc from rfl,
    show (dats m 0 c).owesAt () t.succ = (dats m 0 c).owesAt () t.castSucc from rfl,
    after_0, after_1, after_2, after_3]
  rw [show (dats m 0 c).Φ t.castSucc = Pipeline.ΦA spec0 c from rfl, PhiA0_eq]
  unfold outAt
  iintro ⟨⟨⟨HS0, HS1, HS2, HS3⟩, Hg⟩, Ho, ⟨%d0, H0⟩, ⟨%d1, H1⟩, ⟨%d2, H2⟩, ⟨%d3, H3⟩⟩
  iapply (Tile.run c (grid0.coords t) _ _ _ _ _ _ _ _ _ _ _ _ _ _ _ _ (X0_0 m c t) (iblk m c 1 t) (iblk m c 2 t) Set.univ _)
  isplitl [H0]; · iexact H0
  isplitl [H1]; · iexact H1
  isplitl [H2]; · iexact H2
  isplitl [H3]; · iexists _; iexact H3
  isplitl [HS0]; · iexact HS0
  isplitl [HS1]; · iexact HS1
  isplitl [HS2]; · iexact HS2
  isplitl [HS3]; · iexact HS3
  iintro ⟨H0, H1, H2, H3, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  iexact H3

/-- The body the pipeline calls at a point. -/
theorem defs₀_row (t : Fin cfg0.N) :
    defs₀ (F := Ideal) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
/-- Every execution ends, with the arrays at what the pipeline's data say and all semaphores at zero. -/
theorem run_main : θ_run defs (onTc (τ := τ) (main (F := Ideal))) (s₀ m ρ)
    (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- The frame: the arguments end unchanged and all semaphores are at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result array is the output window's after the last point, the arguments unchanged. -/
theorem run_blocks : θ_run defs (onTc (τ := τ) (main (F := Ideal))) ⟨m, fun _ => 0, ρ⟩ fun r => ∀ c : Dev nD,
      r.2.mem ((c.tc : Thread nD τ).loc main_v16) = (dats m 0 c).arrAt 3 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨(h.1 c).1 3,
      ((h.1 c).2 main_arg0 (Pipeline.mem_restRefs_of main_arg0 (by decide) (by decide))).trans (V_main_arg0 m c),
      ((h.1 c).2 main_arg1 (Pipeline.mem_restRefs_of main_arg1 (by decide) (by decide))).trans (V_main_arg1 m c),
      ((h.1 c).2 main_arg2 (Pipeline.mem_restRefs_of main_arg2 (by decide) (by decide))).trans (V_main_arg2 m c)⟩)
    (run_main m ρ)

end Cert.Flow

end
-- ==== Proof.Softmax.lean ====
/- The mathematics of the online softmax over the extended reals: real scores, values that may be infinite.
   A running maximum `m` and a running weighted sum `a` are rescaled chunk after chunk; what they hold is the
   weighted sum of all the values seen, each weight `2 ^ (score - m)`, and the quotient of two such sums is the
   softmax-weighted sum of the values. -/
module

public import Idealize.ShloMosaic.PureOps.Ideal.Laws
public import Mathlib.Data.EReal.Operations
public import Mathlib.Data.EReal.Inv
public import Mathlib.Analysis.SpecialFunctions.Pow.Real
public import Mathlib.Tactic.FieldSimp
public import Mathlib.Tactic.Ring
public import Mathlib.Tactic.Positivity

@[expose] public section

noncomputable section

namespace Cert.Softmax

open Idealize.ShloMosaic

/-- Two to a real power, of the ideal operation, is the real power of two. -/
theorem exp2_coe (r : ℝ) : Ideal.exp2 (r : EReal) = (((2 : ℝ) ^ r : ℝ) : EReal) := rfl

/-- The ideal exponential of a real is the real exponential. -/
theorem exp_coe (r : ℝ) : Ideal.exp (r : EReal) = ((Real.exp r : ℝ) : EReal) := rfl

/-- The ideal quotient by a nonzero real is multiplication by its real inverse. -/
theorem div_coe (x : EReal) {r : ℝ} (hr : r ≠ 0) : Ideal.div x (r : EReal) = x * ((r⁻¹ : ℝ) : EReal) := by
  have h : (r : EReal) ≠ 0 := by exact_mod_cast hr
  rw [Ideal.div, if_neg h, ← EReal.coe_inv]

/-- A nonnegative real distributes over a finite sum of extended reals. -/
theorem coe_mul_sum {ι : Type} (c : ℝ) (hc : 0 ≤ c) (s : Finset ι) (f : ι → EReal) :
    (c : EReal) * ∑ i ∈ s, f i = ∑ i ∈ s, (c : EReal) * f i := by
  classical
  induction s using Finset.induction_on with
  | empty => simp
  | insert a s ha ih =>
    rw [Finset.sum_insert ha, Finset.sum_insert ha,
      EReal.left_distrib_of_nonneg_of_ne_top (by exact_mod_cast hc) (EReal.coe_ne_top c), ih]

/-- The same with the real on the right. -/
theorem sum_mul_coe {ι : Type} (c : ℝ) (hc : 0 ≤ c) (s : Finset ι) (f : ι → EReal) :
    (∑ i ∈ s, f i) * (c : EReal) = ∑ i ∈ s, f i * (c : EReal) := by
  rw [mul_comm, coe_mul_sum c hc]; exact Finset.sum_congr rfl fun i _ => mul_comm _ _

/-- The real sum, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

variable {K : Nat}

/-- What the running maximum `m` and the running sum `a` hold after the first `n` chunks of scores `S` and values `V`:
    nothing yet, or, for a real `μ`, the maximum `μ` and the sum of the values weighted by `2 ^ (score - μ)`. -/
def Online (S : Nat → Fin K → ℝ) (V : Nat → Fin K → EReal) (n : Nat) (m a : EReal) : Prop :=
  (n = 0 ∧ m = ⊥ ∧ a = 0) ∨
    ∃ μ : ℝ, m = μ ∧ a = ∑ c ∈ Finset.range n, ∑ j, V c j * (((2 : ℝ) ^ (S c j - μ) : ℝ) : EReal)

/-- Before any chunk: the maximum is `⊥` and the sum zero. -/
theorem Online.zero (S : Nat → Fin K → ℝ) (V : Nat → Fin K → EReal) : Online S V 0 ⊥ 0 := .inl ⟨rfl, rfl, rfl⟩

/-- One chunk more: the old sum rescaled by `2 ^ (old maximum - new maximum)`, plus the chunk's values weighted
    against the new maximum. -/
theorem Online.step {S : Nat → Fin K → ℝ} {V : Nat → Fin K → EReal} {n : Nat} {m a : EReal} (h : Online S V n m a)
    (μ' : ℝ) :
    Online S V (n + 1) μ'
      (Ideal.exp2 (m - μ') * a + ∑ j, V n j * Ideal.exp2 ((S n j : EReal) - μ')) := by
  refine .inr ⟨μ', rfl, ?_⟩
  rw [Finset.sum_range_succ]
  congr 1
  rcases h with ⟨rfl, rfl, rfl⟩ | ⟨μ, rfl, rfl⟩
  · simp
  · rw [← EReal.coe_sub, exp2_coe, coe_mul_sum _ (by positivity)]
    refine Finset.sum_congr rfl fun c _ => ?_
    rw [coe_mul_sum _ (by positivity)]
    refine Finset.sum_congr rfl fun j _ => ?_
    rw [mul_left_comm, ← EReal.coe_mul, ← Real.rpow_add (by norm_num)]
    congr 3; ring

/-- The running maximum stays real: the larger of `⊥` or a real and a real. -/
theorem Online.max_real {S : Nat → Fin K → ℝ} {V : Nat → Fin K → EReal} {n : Nat} {m a : EReal} (h : Online S V n m a)
    (x : ℝ) : ∃ μ : ℝ, max m (x : EReal) = μ := by
  rcases h with ⟨_, rfl, _⟩ | ⟨μ, rfl, _⟩
  · exact ⟨x, by simp⟩
  · exact ⟨max μ x, (EReal.coe_strictMono.monotone.map_max).symm⟩

/-- The largest of finitely many reals, at least one, is a real. -/
theorem sup_real {ι : Type} [Fintype ι] [Nonempty ι] (f : ι → ℝ) :
    ∃ x : ℝ, (Finset.univ.sup fun i => (f i : EReal)) = x := by
  obtain ⟨i, -, hi⟩ := Finset.exists_mem_eq_sup (Finset.univ : Finset ι) Finset.univ_nonempty fun i => (f i : EReal)
  exact ⟨f i, hi⟩

/-- THE QUOTIENT: after at least one chunk, the values' running sum divided by the ones' running sum is the sum of the values
    weighted by the softmax of the scores times `log 2`, against any real shift `M`. -/
theorem Online.quotient {S T : Nat → Fin K → ℝ} {V : Nat → Fin K → EReal} {n : Nat} {m a l : EReal} (hn : n ≠ 0)
    (hK : 0 < K) (ha : Online S V n m a) (hl : Online S (fun _ _ => 1) n m l)
    (hT : ∀ c j, T c j = S c j * Real.log 2) (M : ℝ) :
    Ideal.div a l = ∑ c ∈ Finset.range n, ∑ j, V c j *
      Ideal.div (Ideal.exp ((T c j : EReal) - M))
        (∑ c ∈ Finset.range n, ∑ j, Ideal.exp ((T c j : EReal) - M)) := by
  haveI : Nonempty (Fin K) := ⟨⟨0, hK⟩⟩
  have hne : (Finset.range n).Nonempty := Finset.nonempty_range_iff.mpr hn
  rcases ha with ⟨h0, _⟩ | ⟨μ, hm, rfl⟩
  · exact absurd h0 hn
  rcases hl with ⟨h0, _⟩ | ⟨μ', hm', rfl⟩
  · exact absurd h0 hn
  obtain rfl : μ = μ' := by exact_mod_cast hm.symm.trans hm'
  -- both denominators are positive reals
  have hL : (∑ c ∈ Finset.range n, ∑ j : Fin K, (1 : EReal) * (((2 : ℝ) ^ (S c j - μ) : ℝ) : EReal))
      = ((∑ c ∈ Finset.range n, ∑ j : Fin K, (2 : ℝ) ^ (S c j - μ) : ℝ) : EReal) := by
    rw [coe_sum]; refine Finset.sum_congr rfl fun c _ => ?_
    rw [coe_sum]; exact Finset.sum_congr rfl fun j _ => one_mul _
  have hE : (∑ c ∈ Finset.range n, ∑ j : Fin K, Ideal.exp ((T c j : EReal) - M))
      = ((∑ c ∈ Finset.range n, ∑ j : Fin K, Real.exp (T c j - M) : ℝ) : EReal) := by
    rw [coe_sum]; refine Finset.sum_congr rfl fun c _ => ?_
    rw [coe_sum]; refine Finset.sum_congr rfl fun j _ => ?_
    rw [← EReal.coe_sub, exp_coe]
  have pL : 0 < ∑ c ∈ Finset.range n, ∑ j : Fin K, (2 : ℝ) ^ (S c j - μ) :=
    Finset.sum_pos (fun c _ => Finset.sum_pos (fun j _ => by positivity) Finset.univ_nonempty) hne
  have pE : 0 < ∑ c ∈ Finset.range n, ∑ j : Fin K, Real.exp (T c j - M) :=
    Finset.sum_pos (fun c _ => Finset.sum_pos (fun j _ => by positivity) Finset.univ_nonempty) hne
  -- each weight of the one is the common factor `exp (log 2 * μ - M)` times the other's
  have hw : ∀ c j, Real.exp (T c j - M) = (2 : ℝ) ^ (S c j - μ) * Real.exp (μ * Real.log 2 - M) := fun c j => by
    rw [Real.rpow_def_of_pos (by norm_num), ← Real.exp_add, hT]; congr 1; ring
  have hs : (∑ c ∈ Finset.range n, ∑ j : Fin K, Real.exp (T c j - M))
      = (∑ c ∈ Finset.range n, ∑ j : Fin K, (2 : ℝ) ^ (S c j - μ)) * Real.exp (μ * Real.log 2 - M) := by
    rw [Finset.sum_mul]; refine Finset.sum_congr rfl fun c _ => ?_
    rw [Finset.sum_mul]; exact Finset.sum_congr rfl fun j _ => hw c j
  rw [hL, div_coe _ pL.ne', sum_mul_coe _ (by positivity)]
  refine Finset.sum_congr rfl fun c _ => ?_
  rw [sum_mul_coe _ (by positivity)]
  refine Finset.sum_congr rfl fun j _ => ?_
  rw [hE, div_coe _ pE.ne', ← EReal.coe_sub, exp_coe, mul_assoc, ← EReal.coe_mul, ← EReal.coe_mul]
  congr 2
  rw [hs, hw]
  have := Real.exp_pos (μ * Real.log 2 - M)
  field_simp

end Cert.Softmax

end
-- ==== Proof.Tile.lean ====
/- One chunk of keys against one tile of stacked queries: the body's vector expressions read at an index. -/
module

public import proofs.«01_k».proof.Proof.State
public import proofs.«01_k».proof.Proof.Softmax
public import Idealize.ShloMosaic.Lib.Pipeline.ValueKit

@[expose] public section

set_option maxRecDepth 16384

noncomputable section

namespace Cert.Tile

open Cert.KernelIdeal Cert.KernelIdeal.Gen
open Idealize.ShloMosaic Idealize.ShloMosaic.TcCoe

/-- The scores of a chunk of keys against the stacked queries: one product of rows each. -/
theorem scores_apply (q : FVec Ideal S1024x128 .bf16) (k : FVec Ideal S512x128 .bf16) (j : Fin 512) (c : Fin 1024) :
    k0_pay9 q k (ix2 j c) = ∑ d : Fin 128, k (ix2 j d) * q (ix2 c d) := by
  pointwise [k0_pay9]

/-- The new maximum of a chunk: the old one or the largest score of the column. -/
theorem max_apply (s : FVec Ideal S512x1024 .f32) (m : FVec Ideal S8x1024 .f32) (i : Fin 8) (c : Fin 1024) :
    k0_pay10 s m (ix2 i c) = max (m (ix2 i c)) (Finset.univ.fold max ⊥ fun j : Fin 512 => s (ix2 j c)) := by
  pointwise [k0_pay10]
  rw [show Ideal.ofBits .f32 4286578688#32 = ⊥ by simp [Ideal.ofBits, Ideal.ieee]]

/-- Copies of eight rows stacked: row `r` is row `r` modulo eight. -/
theorem copies_apply {R : ℕ} (N : ℕ) (n : FVec Ideal S8x1024 .f32)
    (h : Shape.Concatenates ((List.replicate N (⟨S8x1024, n⟩ : (s : Shape) × (s.Idx → Ideal .f32))).map (·.1)) ⟨2, ![R, 1024]⟩ 0)
    (r : Fin R) (c : Fin 1024) :
    concatenate ⟨2, ![R, 1024]⟩ 0 (List.replicate N (⟨S8x1024, n⟩ : (s : Shape) × (s.Idx → Ideal .f32))) h (ix2 r c)
      = n (ix2 ⟨r.val % 8, by omega⟩ c) := by
  refine concatenate_replicate_apply 0 N n h rfl (ix2 r c) (ix2 ⟨r.val % 8, by omega⟩ c) rfl ?_
  intro b hb
  match b with
  | ⟨0, _⟩ => exact absurd rfl hb
  | ⟨1, _⟩ => rfl

/-- The new accumulator of a chunk, its copies of the maximum and of the rescaling as lists of copies. -/
theorem acc_eq (s : FVec Ideal S512x1024 .f32) (m : FVec Ideal S8x1024 .f32) (a : FVec Ideal S144x1024 .f32)
    (v : FVec Ideal S1x144x512 .bf16) :
    k0_pay11 (F := Ideal) s m a v
      = addf (mulf (concatenate S144x1024 0 (List.replicate 18 (⟨S8x1024, exp2 (subf m (k0_pay10 s m))⟩ : (s : Shape) × (s.Idx → Ideal .f32)))
            concatenates_S8x1024_S8x1024_S8x1024_S8x1024_S8x1024_S8x1024_S8x1024_S8x1024_S8x1024_S8x1024_S8x1024_S8x1024_S8x1024_S8x1024_S8x1024_S8x1024_S8x1024_S8x1024_S144x1024_d0) a)
          (matmul dot_S144x512_S512x1024_S144x1024_1_0_0_1_n_n none (shapeCast S144x512 v shapeCasts_S1x144x512_S144x512)
            (truncf .bf16 (exp2 (subf s (concatenate S512x1024 0 (List.replicate 64 (⟨S8x1024, k0_pay10 s m⟩ : (s : Shape) × (s.Idx → Ideal .f32)))
              concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S512x1024_d0))) bitsLt_bf16_f32)
            (constant S144x1024 .f32 0x00000000#32)) := by
  unfold k0_pay11
  exact shapeCast_self _ _

/-- The new accumulator of a chunk: the old one rescaled, and the values weighted against the new maximum. -/
theorem acc_apply (s : FVec Ideal S512x1024 .f32) (m : FVec Ideal S8x1024 .f32) (a : FVec Ideal S144x1024 .f32)
    (v : FVec Ideal S1x144x512 .bf16) (r : Fin 144) (c : Fin 1024) :
    (k0_pay11 (F := Ideal) s m a v (ix2 r c) : EReal)
      = Ideal.exp2 ((m (ix2 ⟨r.val % 8, by omega⟩ c) : EReal) - k0_pay10 (F := Ideal) s m (ix2 ⟨r.val % 8, by omega⟩ c)) * a (ix2 r c)
        + ∑ j : Fin 512, v (ix3 0 r j) * Ideal.exp2 ((s (ix2 j c) : EReal) - k0_pay10 (F := Ideal) s m (ix2 ⟨j.val % 8, by omega⟩ c)) := by
  rw [acc_eq]
  generalize k0_pay10 (F := Ideal) s m = n
  have h1 := copies_apply 18 (exp2 (subf m n)) concatenates_S8x1024_S8x1024_S8x1024_S8x1024_S8x1024_S8x1024_S8x1024_S8x1024_S8x1024_S8x1024_S8x1024_S8x1024_S8x1024_S8x1024_S8x1024_S8x1024_S8x1024_S8x1024_S144x1024_d0 r c
  have h2 := fun j : Fin 512 => copies_apply 64 n concatenates_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S8x1024_S512x1024_d0 j c
  generalize concatenate S144x1024 0 (List.replicate 18 (⟨S8x1024, exp2 (subf m n)⟩ : (s : Shape) × (s.Idx → Ideal .f32))) _ = A at h1 ⊢
  generalize concatenate S512x1024 0 (List.replicate 64 (⟨S8x1024, n⟩ : (s : Shape) × (s.Idx → Ideal .f32))) _ = B at h2 ⊢
  pointwise []
  rw [h1]
  simp only [h2]
  rfl

/-- The quotient a tile ends with, its copies of the denominator as a list of copies. -/
theorem quotient_eq (a : FVec Ideal S144x1024 .f32) :
    k0_pay72 (F := Ideal) a
      = transpose S1024x128 [1, 0] (divf (extractStridedSlice S128x1024 ![0, 0] a slices_S144x1024_o0_0_S128x1024)
          (concatenate S128x1024 0 (List.replicate 16 (⟨S8x1024, extractStridedSlice S8x1024 ![128, 0] a slices_S144x1024_o128_0_S8x1024⟩ : (s : Shape) × (s.Idx → Ideal .f32)))
            concatenates_S8x1024_S8x1024_S8x1024_S8x1024_S8x1024_S8x1024_S8x1024_S8x1024_S8x1024_S8x1024_S8x1024_S8x1024_S8x1024_S8x1024_S8x1024_S8x1024_S128x1024_d0)) transposes_S128x1024_p1_0_S1024x128 := rfl

/-- A tile's result: a value row of the accumulator over a row of ones. -/
theorem quotient_apply (a : FVec Ideal S144x1024 .f32) (c : Fin 1024) (d : Fin 128) :
    (k0_pay72 (F := Ideal) a (ix2 c d) : EReal)
      = Ideal.div (a (ix2 ⟨d.val, by omega⟩ c)) (a (ix2 ⟨128 + d.val % 8, by omega⟩ c)) := by
  rw [quotient_eq]
  have h1 := copies_apply 16 (extractStridedSlice S8x1024 ![128, 0] a slices_S144x1024_o128_0_S8x1024) concatenates_S8x1024_S8x1024_S8x1024_S8x1024_S8x1024_S8x1024_S8x1024_S8x1024_S8x1024_S8x1024_S8x1024_S8x1024_S8x1024_S8x1024_S8x1024_S8x1024_S128x1024_d0 d c
  generalize concatenate S128x1024 0 (List.replicate 16 (⟨S8x1024, extractStridedSlice S8x1024 ![128, 0] a slices_S144x1024_o128_0_S8x1024⟩ : (s : Shape) × (s.Idx → Ideal .f32))) _ = A at h1 ⊢
  pointwise []
  rw [h1]
  congr 1
  show a _ = a _
  congr 1
  funext b
  match b with
  | ⟨0, _⟩ => rfl
  | ⟨1, _⟩ => exact Fin.ext (show 0 + c.val = c.val by omega)

end Cert.Tile

end
-- ==== Proof.Column.lean ====
/- One column of a tile, one query of one head: what the state holds of it after each pair of chunks, and its result. -/
module

public import proofs.«01_k».proof.Proof.Tile

@[expose] public section

set_option maxRecDepth 16384

noncomputable section

namespace Cert.Tile

open Cert.KernelIdeal Cert.KernelIdeal.Gen
open Idealize.ShloMosaic Idealize.ShloMosaic.TcCoe
open Cert.Softmax

/-- The chunk a running number names. -/
def chunkNo (n : ℕ) : Fin 16 := ⟨n % 16, by omega⟩

/-- The scores of column `c`, chunk by chunk, as reals. -/
def colScore (x1 : Vec Ideal S8192x128 .bf16) (q : FVec Ideal S1024x128 .bf16) (c : Fin 1024) (n : ℕ) (j : Fin 512) : ℝ :=
  ∑ d : Fin 128, EReal.toReal (kChunk x1 (chunkNo n) (ix2 j d)) * EReal.toReal (q (ix2 c d))

/-- Row `r` of the transposed values, chunk by chunk. -/
def rowValue (x2 : Vec Ideal S16x144x512 .bf16) (r : Fin 144) (n : ℕ) (j : Fin 512) : EReal := vChunk x2 (chunkNo n) (ix3 0 r j)

/-- Real queries and keys have real scores. -/
theorem scores_real (x1 : Vec Ideal S8192x128 .bf16) (q : FVec Ideal S1024x128 .bf16) (h1 : ∀ i, (x1 i : EReal) = (EReal.toReal (x1 i) : ℝ))
    (hq : ∀ i, (q i : EReal) = (EReal.toReal (q i) : ℝ)) (c : Fin 1024) (n : ℕ) (j : Fin 512) :
    (k0_pay9 (F := Ideal) q (kChunk x1 (chunkNo n)) (ix2 j c) : EReal) = (colScore x1 q c n j : ℝ) := by
  rw [scores_apply, colScore, coe_sum]
  refine Finset.sum_congr rfl fun d _ => ?_
  rw [EReal.coe_mul, ← hq]
  exact congrArg (· * _) (h1 _)

/-- What a maximum and an accumulator hold of column `c` after `n` chunks: every row of the maximum the same, every row of the
accumulator the running sum of that row's values. -/
def Holds (S : ℕ → Fin 512 → ℝ) (V : Fin 144 → ℕ → Fin 512 → EReal) (c : Fin 1024) (n : ℕ) (m : Vec Ideal S8x1024 .f32)
    (a : Vec Ideal S144x1024 .f32) : Prop :=
  ∃ M : EReal, (∀ i : Fin 8, m (ix2 i c) = M) ∧ ∀ r : Fin 144, Online S (V r) n M (a (ix2 r c))

/-- One chunk folded in. -/
theorem Holds.chunk {S : ℕ → Fin 512 → ℝ} {V : Fin 144 → ℕ → Fin 512 → EReal} {c : Fin 1024} {n : ℕ} {m : Vec Ideal S8x1024 .f32}
    {a : Vec Ideal S144x1024 .f32} (h : Holds S V c n m a) (s : Vec Ideal S512x1024 .f32) (v : Vec Ideal S1x144x512 .bf16)
    (hs : ∀ j, s (ix2 j c) = ((S n j : ℝ) : EReal)) (hv : ∀ r j, v (ix3 0 r j) = V r n j) :
    Holds S V c (n + 1) (k0_pay10 (F := Ideal) s m) (k0_pay11 (F := Ideal) s m a v) := by
  obtain ⟨M, hm, ha⟩ := h
  obtain ⟨x, hx⟩ := sup_real (S n)
  obtain ⟨μ, hμ⟩ := (ha 0).max_real x
  have hmax : ∀ i : Fin 8, (k0_pay10 (F := Ideal) s m (ix2 i c) : EReal) = (μ : EReal) := by
    intro i
    rw [max_apply, hm, ← hμ, ← hx]
    simp only [hs]
    rfl
  refine ⟨μ, hmax, fun r => ?_⟩
  rw [acc_apply]
  simp only [hmax, hm, hs, hv]
  exact (ha r).step μ

/-- The state before trip `k`: chunks `0 … 2k - 1` folded in, the scores of chunk `2k` waiting. -/
theorem st_holds (x1 : Vec Ideal S8192x128 .bf16) (x2 : Vec Ideal S16x144x512 .bf16) (q qn : FVec Ideal S1024x128 .bf16) (w : Fin 16)
    (h1 : ∀ i, (x1 i : EReal) = (EReal.toReal (x1 i) : ℝ)) (hq : ∀ i, (q i : EReal) = (EReal.toReal (q i) : ℝ)) (c : Fin 1024) :
    ∀ k : ℕ, k ≤ 8 →
      Holds (colScore x1 q c) (rowValue x2) c (2 * k) (st x1 x2 q qn w k).1 (st x1 x2 q qn w k).2.1
      ∧ (k < 8 → (st x1 x2 q qn w k).2.2 = k0_pay9 (F := Ideal) q (kChunk x1 (chunkNo (2 * k))))
  | 0, _ => by
    refine ⟨⟨⊥, fun i => ?_, fun r => ?_⟩, fun _ => rfl⟩
    · show k0_pay68 (F := Ideal) (ix2 i c) = ⊥
      pointwise [k0_pay68]
      rfl
    · have h : (st x1 x2 q qn w 0).2.1 (ix2 r c) = (0 : EReal) := by
        show k0_pay82 (F := Ideal) (ix2 r c) = (0 : EReal)
        pointwise [k0_pay82]
      rw [h]
      exact Online.zero _ _
  | k + 1, hk => by
    obtain ⟨hh, hw⟩ := st_holds x1 x2 q qn w h1 hq c k (by omega)
    have hw := hw (by omega)
    have e0 : chunkNo (2 * k) = ⟨2 * k, by omega⟩ := Fin.ext (by show 2 * k % 16 = 2 * k; omega)
    have e1 : chunkNo (2 * k + 1) = ⟨2 * k + 1, by omega⟩ := Fin.ext (by show (2 * k + 1) % 16 = 2 * k + 1; omega)
    rw [show st x1 x2 q qn w (k + 1) = _ from st_succ x1 x2 q qn w ⟨k, by omega⟩]
    have g1 := hh.chunk (st x1 x2 q qn w k).2.2 (vChunk x2 ⟨2 * k, by omega⟩)
      (fun j => by rw [hw]; exact scores_real x1 q h1 hq c (2 * k) j) (fun r j => by rw [← e0]; rfl)
    have g2 := g1.chunk (k0_pay9 (F := Ideal) q (kChunk x1 ⟨2 * k + 1, by omega⟩)) (vChunk x2 ⟨2 * k + 1, by omega⟩)
      (fun j => by rw [← e1]; exact scores_real x1 q h1 hq c (2 * k + 1) j) (fun r j => by rw [← e1]; rfl)
    refine ⟨g2, fun h7 => ?_⟩
    have e2 : chunkNo (2 * (k + 1)) = ⟨2 * k + 2, by omega⟩ := Fin.ext (by show 2 * (k + 1) % 16 = 2 * k + 2; omega)
    simp only [step]
    rw [dif_pos (show k < 7 by omega), e2]

/-- A sum over sixteen chunks of 512 is a sum over all 8192 keys. -/
theorem sum_chunks (f : Fin 8192 → EReal) :
    ∑ n ∈ Finset.range 16, ∑ j : Fin 512, f ⟨(chunkNo n).val * 512 + j.val, by have := (chunkNo n).isLt; omega⟩ = ∑ k, f k := by
  rw [Finset.sum_range, ← Fintype.sum_prod_type']
  refine Fintype.sum_equiv (finProdFinEquiv (m := 16) (n := 512)) _ _ fun p => congrArg f (Fin.ext ?_)
  have h : p.1.val % 16 = p.1.val := Nat.mod_eq_of_lt p.1.isLt
  show p.1.val % 16 * 512 + p.2.val = p.2.val + 512 * p.1.val
  omega

/-- The block's result at one query, head and lane: the softmax, against any shift, of scores that are the products of rows
times `log 2`. -/
theorem block_value (x0 : Vec Ideal S2048x512 .bf16) (x1 : Vec Ideal S8192x128 .bf16) (x2 : Vec Ideal S16x144x512 .bf16)
    (h0 : ∀ i, (x0 i : EReal) = (EReal.toReal (x0 i) : ℝ)) (h1 : ∀ i, (x1 i : EReal) = (EReal.toReal (x1 i) : ℝ))
    (hone : ∀ (n : Fin 16) (r : Fin 144) (j : Fin 512), 128 ≤ r.val → (x2 (ix3 n r j) : EReal) = 1)
    (R : Fin 2048) (g : Fin 4) (d : Fin 128) (T : Fin 8192 → ℝ)
    (hT : ∀ k, T k = (∑ e : Fin 128, EReal.toReal (x1 (ix2 k e)) * EReal.toReal (x0 (ix2 R ⟨g.val * 128 + e.val, by omega⟩))) * Real.log 2)
    (M : ℝ) :
    (blockOut x0 x1 x2 (ix2 R ⟨g.val * 128 + d.val, by omega⟩) : EReal)
      = ∑ k : Fin 8192, x2 (ix3 ⟨k.val / 512, by omega⟩ ⟨d.val, by omega⟩ ⟨k.val % 512, by omega⟩)
          * Ideal.div (Ideal.exp ((T k : EReal) - M)) (∑ k : Fin 8192, Ideal.exp ((T k : EReal) - M)) := by
  have hR := R.isLt; have hg := g.isLt; have hd := d.isLt
  let t : Fin 8 := ⟨R.val / 256, by omega⟩
  let c : Fin 1024 := ⟨g.val * 256 + R.val % 256, by omega⟩
  have e : (blockOut x0 x1 x2 (ix2 R ⟨g.val * 128 + d.val, by omega⟩) : EReal)
      = k0_pay72 (F := Ideal) (accOf x0 x1 x2 t) (ix2 c d) := by
    show k0_pay72 (F := Ideal) (accOf x0 x1 x2 t) (ix2 ⟨(g.val * 128 + d.val) / 128 * 256 + R.val % 256, _⟩ ⟨(g.val * 128 + d.val) % 128, _⟩)
      = k0_pay72 (F := Ideal) (accOf x0 x1 x2 t) (ix2 c d)
    congr 2
    · exact Fin.ext (by show (g.val * 128 + d.val) / 128 * 256 + R.val % 256 = g.val * 256 + R.val % 256; omega)
    · exact Fin.ext (by show (g.val * 128 + d.val) % 128 = d.val; omega)
  rw [e, quotient_apply]
  obtain ⟨⟨μ, -, ha⟩, -⟩ := st_holds x1 x2 (stackQ x0 t) (nextQ x0 t) (if t.val = 7 then 15 else 0) h1 (fun i => h0 _) c 8 le_rfl
  have hl : Online (colScore x1 (stackQ x0 t) c) (fun _ _ => 1) (2 * 8) μ (accOf x0 x1 x2 t (ix2 ⟨128 + d.val % 8, by omega⟩ c)) := by
    have := ha ⟨128 + d.val % 8, by omega⟩
    rwa [show rowValue x2 ⟨128 + d.val % 8, by omega⟩ = fun _ _ => (1 : EReal) from
      funext fun n => funext fun j => hone _ _ _ (by show 128 ≤ 128 + d.val % 8; omega)] at this
  have hv : Online (colScore x1 (stackQ x0 t) c) (rowValue x2 ⟨d.val, by omega⟩) (2 * 8) μ (accOf x0 x1 x2 t (ix2 ⟨d.val, by omega⟩ c)) :=
    ha ⟨d.val, by omega⟩
  rw [Online.quotient (T := fun n j => T ⟨(chunkNo n).val * 512 + j.val, by have := (chunkNo n).isLt; omega⟩) (by omega) (by omega)
    hv hl ?_ M]
  · rw [show (2 * 8) = 16 from rfl, sum_chunks fun k => Ideal.exp ((T k : EReal) - M)]
    generalize ∑ k : Fin 8192, Ideal.exp ((T k : EReal) - M) = D
    refine Eq.trans ?_ (sum_chunks fun k : Fin 8192 => x2 (ix3 ⟨k.val / 512, by omega⟩ ⟨d.val, by omega⟩ ⟨k.val % 512, by omega⟩)
      * Ideal.div (Ideal.exp ((T k : EReal) - M)) D)
    refine Finset.sum_congr rfl fun n _ => Finset.sum_congr rfl fun j _ => ?_
    have e0 : chunkNo n = ⟨((chunkNo n).val * 512 + j.val) / 512, by have := (chunkNo n).isLt; omega⟩ := Fin.ext (by
      show (chunkNo n).val = ((chunkNo n).val * 512 + j.val) / 512; omega)
    have e1 : j = ⟨((chunkNo n).val * 512 + j.val) % 512, by omega⟩ := Fin.ext (by
      show j.val = ((chunkNo n).val * 512 + j.val) % 512; omega)
    have e2 : rowValue x2 ⟨d.val, by omega⟩ n j = x2 (ix3 ⟨((chunkNo n).val * 512 + j.val) / 512, by have := (chunkNo n).isLt; omega⟩
        ⟨d.val, by omega⟩ ⟨((chunkNo n).val * 512 + j.val) % 512, by omega⟩) := by
      rw [← e0, ← e1]; rfl
    rw [e2]
  · intro n j
    rw [hT]
    congr 1
    refine Finset.sum_congr rfl fun e _ => ?_
    congr 2
    show x0 _ = x0 _
    congr 1
    congr 1
    · exact Fin.ext (by show R.val = R.val / 256 * 256 + (g.val * 256 + R.val % 256) % 256; omega)
    · exact Fin.ext (by show g.val * 128 + e.val = (g.val * 256 + R.val % 256) / 256 * 128 + e.val; omega)

end Cert.Tile

end
-- ==== Proof.RefValue.lean ====
/- What the reference computes at one element of its result: the softmax of the scaled scores of one query row against
   the keys of its sequence, summed against one column of the values. -/
module

public import proofs.«01_k».proof.Proof.Gen.ReferenceIdeal.Read
public import proofs.«01_k».proof.Proof.Softmax
public import Idealize.ShloMosaic.Lib.Pipeline.ValueKit

@[expose] public section

set_option maxRecDepth 16384

noncomputable section

namespace Cert.RefValue

open Cert.ReferenceIdeal Cert.ReferenceIdeal.Gen Cert.ReferenceIdeal.Read
open Idealize.ShloMosaic Idealize.ShloMosaic.TcCoe

/-- The query head that key head `h` serves as its `g`-th. -/
abbrev qHead (h : Fin 2) (g : Fin 4) : Fin 8 := ⟨h.val * 4 + g.val, by omega⟩

/-- The scaled score of query row `s` and key row `k`, as a real. -/
def score (Q : FVec Ideal S6x8192x8x128 .f32) (K : FVec Ideal S6x8192x2x128 .f32) (b : Fin 6) (h : Fin 2) (g : Fin 4)
    (s k : Fin 8192) : ℝ :=
  (∑ d : Fin 128, (K (ix4 b k h d)).toReal * (Q (ix4 b s (qHead h g) d)).toReal) / Real.sqrt 128

variable (Q : FVec Ideal S6x8192x8x128 .f32) (K V : FVec Ideal S6x8192x2x128 .f32)

/-- The word of the divisor denotes 128. -/
theorem ofBits_128 : Ideal.ofBits .f32 0x43000000#32 = ((128 : ℝ) : EReal) := by
  simp [Ideal.ofBits, Ideal.ieee, -EReal.coe_mul]; norm_num

/-- A fold of `max` from `⊥` over at least one real is a real. -/
theorem fold_max_real {ι : Type} (s : Finset ι) (hs : s.Nonempty) (f : ι → EReal) (hf : ∀ i, ∃ r : ℝ, f i = r) :
    ∃ r : ℝ, s.fold max ⊥ f = r := by
  classical
  induction hs using Finset.Nonempty.cons_induction with
  | singleton a => obtain ⟨r, hr⟩ := hf a; exact ⟨r, by simp [hr]⟩
  | cons a s ha hs ih =>
    obtain ⟨r, hr⟩ := hf a; obtain ⟨r', hr'⟩ := ih
    exact ⟨max r r', by rw [Finset.fold_cons, hr, hr']; exact (EReal.coe_strictMono.monotone.map_max).symm⟩

variable (hQ : ∀ i, Q i = ((Q i).toReal : EReal)) (hK : ∀ i, K i = ((K i).toReal : EReal))

include hQ hK in
/-- The reference's scaled scores are the real scores. -/
theorem scores_at (b : Fin 6) (h : Fin 2) (g : Fin 4) (s k : Fin 8192) :
    val_main_v5 (F := Ideal) Q K (ix5 b h g s k) = (score Q K b h g s k : EReal) := by
  rw [val_main_v5_apply, val_main_v2_apply, val_main_v1_apply, val_main_v4_apply, val_main_v3_apply, val_main_cst_apply]
  have e : (FloatOps.hostUnary HostUnaryOp.sqrt (FloatOps.ofBits FTy.f32 0x43000000#32 : Ideal .f32) : Ideal .f32)
      = ((Real.sqrt 128 : ℝ) : EReal) := by
    show Ideal.sqrt (Ideal.ofBits .f32 0x43000000#32) = _
    rw [ofBits_128]; show (if (128 : ℝ) < 0 then (⊥ : EReal) else _) = _; rw [if_neg (by norm_num)]
  rw [e]
  show Ideal.div _ _ = _
  rw [Softmax.div_coe _ (by positivity : Real.sqrt 128 ≠ 0), score, div_eq_mul_inv, EReal.coe_mul, Softmax.coe_sum]
  congr 1
  refine Finset.sum_congr rfl fun d _ => ?_
  rw [EReal.coe_mul, ← hK, ← hQ, val_main_v0_apply]
  congr 2
  · funext a; match a with
    | ⟨0, _⟩ => rfl
    | ⟨1, _⟩ => rfl
    | ⟨2, _⟩ => rfl
    | ⟨3, _⟩ => rfl
  · funext a
    have h0 := b.isLt; have h1 := h.isLt; have h2 := g.isLt; have h3 := s.isLt; have h4 := d.isLt
    match a with
    | ⟨0, _⟩ => exact Fin.ext (by show ((((b.val * 8192 + s.val) * 2 + h.val) * 4 + g.val) * 128 + d.val) / 8388608 = b.val; omega)
    | ⟨1, _⟩ => exact Fin.ext (by show ((((b.val * 8192 + s.val) * 2 + h.val) * 4 + g.val) * 128 + d.val) / 1024 % 8192 = s.val; omega)
    | ⟨2, _⟩ => exact Fin.ext (by show ((((b.val * 8192 + s.val) * 2 + h.val) * 4 + g.val) * 128 + d.val) / 128 % 8 = h.val * 4 + g.val; omega)
    | ⟨3, _⟩ => exact Fin.ext (by show ((((b.val * 8192 + s.val) * 2 + h.val) * 4 + g.val) * 128 + d.val) % 128 = d.val; omega)

include hQ hK in
/-- The row maximum the reference subtracts is a real. -/
theorem shift_real (b : Fin 6) (h : Fin 2) (g : Fin 4) (s : Fin 8192) :
    ∃ M : ℝ, val_main_v8 (F := Ideal) Q K (ix4 b h g s) = (M : EReal) := by
  have hb : (FloatOps.ofBits FTy.f32 0xFF800000#32 : Ideal .f32) = (⊥ : EReal) := by
    show Ideal.ofBits .f32 0xFF800000#32 = ⊥
    simp [Ideal.ofBits, Ideal.ieee]
  have hr : S6x2x4x8192x8192.Reduces [4] S6x2x4x8192 := by decide
  have hf : ∃ r : ℝ, val_main_v6 (F := Ideal) Q K (ix4 b h g s) = (r : EReal) := by
    unfold val_main_v6
    rw [Host.reduce_eq_fold]
    rw [val_main_cst_0_apply, hb]
    refine fold_max_real _ ⟨hr.lift (ix4 b h g s) (⟨0, by decide⟩ : Fin 8192), ?_⟩ _ fun i => ?_
    · exact Finset.mem_filter.mpr ⟨Finset.mem_univ _, by rw [Shape.ReducesTo.drop_eq_drop _ hr]; exact hr.drop_lift _ _⟩
    · obtain ⟨b', h', g', s', k', rfl⟩ : ∃ b' h' g' s' k', i = ix5 b' h' g' s' k' :=
        ⟨i 0, i 1, i 2, i 3, i 4, by funext a; match a with
          | ⟨0, _⟩ => rfl
          | ⟨1, _⟩ => rfl
          | ⟨2, _⟩ => rfl
          | ⟨3, _⟩ => rfl
          | ⟨4, _⟩ => rfl⟩
      exact ⟨_, scores_at Q K hQ hK b' h' g' s' k'⟩
  obtain ⟨r, hr'⟩ := hf
  refine ⟨r, ?_⟩
  rw [val_main_v8_apply, hr', val_main_v7_apply, val_main_cst_1_apply, hb]
  show max (⊥ : EReal) r = r
  simp

include hQ hK in
/-- THE REFERENCE at query row `s` of sequence `b`, head `(h, g)`, column `d`: for some real shift `M`, the values' column weighted
    by the softmax of the scores. -/
theorem result_at (b : Fin 6) (h : Fin 2) (g : Fin 4) (s : Fin 8192) (d : Fin 128) :
    ∃ M : ℝ, val_main_v20 (F := Ideal) Q K V
        (ix2 ⟨b.val * 8192 + s.val, by omega⟩ ⟨(h.val * 4 + g.val) * 128 + d.val, by omega⟩)
      = ∑ k : Fin 8192, V (ix4 b k h d) * Ideal.div (Ideal.exp ((score Q K b h g s k : EReal) - M))
          (∑ k : Fin 8192, Ideal.exp ((score Q K b h g s k : EReal) - M)) := by
  obtain ⟨M, hM⟩ := shift_real Q K hQ hK b h g s
  refine ⟨M, ?_⟩
  have hx : ∀ k : Fin 8192, val_main_v12 (F := Ideal) Q K (ix5 b h g s k)
      = Ideal.exp ((score Q K b h g s k : EReal) - M) := fun k => by
    rw [val_main_v12_apply, val_main_v11_apply, scores_at Q K hQ hK, val_main_v10_apply, val_main_v9_apply]
    have : idx_main_v9 (idx_main_v10 (ix5 b h g s k)) = ix4 b h g s := by
      funext a; match a with
        | ⟨0, _⟩ => rfl
        | ⟨1, _⟩ => rfl
        | ⟨2, _⟩ => rfl
        | ⟨3, _⟩ => rfl
    rw [this, hM]; rfl
  have hsum : ∀ k : Fin 8192, val_main_v15 (F := Ideal) Q K (ix5 b h g s k)
      = ∑ k : Fin 8192, Ideal.exp ((score Q K b h g s k : EReal) - M) := fun k => by
    rw [val_main_v15_apply, val_main_v14_apply, val_main_v13_apply, val_main_cst_2_apply]
    have h0 : (FloatOps.ofBits FTy.f32 0x00000000#32 : Ideal .f32) = (0 : EReal) := Ideal.ofBits_zero_f32
    rw [h0, zero_add]
    refine Finset.sum_congr rfl fun k' _ => ?_
    have hi : idx_main_v13 (idx_main_v14 (idx_main_v15 (ix5 b h g s k))) k' = ix5 b h g s k' := by
      funext a; match a with
        | ⟨0, _⟩ => rfl
        | ⟨1, _⟩ => rfl
        | ⟨2, _⟩ => rfl
        | ⟨3, _⟩ => rfl
        | ⟨4, _⟩ => rfl
    rw [hi, hx k']
  rw [val_main_v20_apply]
  show val_main_v19 (F := Ideal) Q K V _ = _
  have hi : idx_main_v18 (idx_main_v19 (ix2 ⟨b.val * 8192 + s.val, by omega⟩ ⟨(h.val * 4 + g.val) * 128 + d.val, by omega⟩))
      = ix5 b h d g s := by
    funext a
    have h0 := b.isLt; have h1 := h.isLt; have h2 := g.isLt; have h3 := s.isLt; have h4 := d.isLt
    match a with
    | ⟨0, _⟩ => exact Fin.ext (by show ((b.val * 8192 + s.val) * 1024 + ((h.val * 4 + g.val) * 128 + d.val)) / 8388608 = b.val; omega)
    | ⟨1, _⟩ => exact Fin.ext (by show ((b.val * 8192 + s.val) * 1024 + ((h.val * 4 + g.val) * 128 + d.val)) / 512 % 2 = h.val; omega)
    | ⟨2, _⟩ => exact Fin.ext (by show ((b.val * 8192 + s.val) * 1024 + ((h.val * 4 + g.val) * 128 + d.val)) % 128 = d.val; omega)
    | ⟨3, _⟩ => exact Fin.ext (by show ((b.val * 8192 + s.val) * 1024 + ((h.val * 4 + g.val) * 128 + d.val)) / 128 % 4 = g.val; omega)
    | ⟨4, _⟩ => exact Fin.ext (by show ((b.val * 8192 + s.val) * 1024 + ((h.val * 4 + g.val) * 128 + d.val)) / 1024 % 8192 = s.val; omega)
  rw [val_main_v19_apply, val_main_v18_apply, hi, val_main_v17_apply]
  refine Finset.sum_congr rfl fun k _ => ?_
  have hl : lidx_main_v17 (ix5 b h d g s) k = ix4 b k h d := by
    funext a; match a with
      | ⟨0, _⟩ => rfl
      | ⟨1, _⟩ => rfl
      | ⟨2, _⟩ => rfl
      | ⟨3, _⟩ => rfl
  have hrr : ridx_main_v17 (ix5 b h d g s) k = ix5 b h g s k := by
    funext a; match a with
      | ⟨0, _⟩ => rfl
      | ⟨1, _⟩ => rfl
      | ⟨2, _⟩ => rfl
      | ⟨3, _⟩ => rfl
      | ⟨4, _⟩ => rfl
  rw [hl, hrr, val_main_v16_apply, hx, hsum]
  rfl

end Cert.RefValue

end
-- ==== Proof.Entry.lean ====
/- The two arrays the host hands the kernel, read at an index: the scaled queries beside the keys, and the transposed
   values over rows of ones. -/
module

public import proofs.«01_k».proof.Proof.Gen.KernelIdeal.Frame.Runs
public import proofs.«01_k».proof.Proof.RefValue
public import Idealize.ShloMosaic.Lib.Pipeline.Value
public import Idealize.ShloMosaic.Lib.StableHlo.Run

@[expose] public section

set_option maxRecDepth 16384

noncomputable section

namespace Cert.Entry

open Cert.KernelIdeal Cert.KernelIdeal.Gen
open Idealize.ShloMosaic Idealize.ShloMosaic.TcCoe
open Cert.RefValue (qHead)

/-- The factor the queries are scaled by, as the host computes it. -/
def scaleWord : FVec Ideal S_ .f32 :=
  Host.divf (F := Ideal) (constant S_ .f32 0x3F800000#32)
    (mulf (F := Ideal) (Host.sqrt (F := Ideal) (constant S_ .f32 0x43000000#32)) (Host.log (F := Ideal) (constant S_ .f32 0x40000000#32)))

/-- The queries scaled, one row per token. -/
def queries (Q : FVec Ideal S6x8192x8x128 .f32) : FVec Ideal S49152x1024 .f32 :=
  shapeCast _ (mulf (F := Ideal) Q (broadcastInDim S6x8192x8x128 ![] bcast_S_S6x8192x8x128 scaleWord)) shapeCasts_S6x8192x8x128_S49152x1024

/-- The keys, one row per token. -/
def keys (K : FVec Ideal S6x8192x2x128 .f32) : FVec Ideal S49152x256 .f32 :=
  shapeCast _ K shapeCasts_S6x8192x2x128_S49152x256

/-- The first array: the queries' columns, then the keys'. -/
def qk (Q : FVec Ideal S6x8192x8x128 .f32) (K : FVec Ideal S6x8192x2x128 .f32) : FVec Ideal S49152x1280 .bf16 :=
  truncf (F := Ideal) .bf16 (concatenate S49152x1280 1 [⟨S49152x1024, queries Q⟩, ⟨S49152x256, keys K⟩]
    concatenates_S49152x1024_S49152x256_S49152x1280_d1) bitsLt_bf16_f32

/-- The values in chunks of 512 tokens, each chunk transposed. -/
def columns (W : FVec Ideal S6x8192x2x128 .f32) : FVec Ideal S96x2x128x512 .f32 :=
  transpose S96x2x128x512 [0, 2, 3, 1] (shapeCast S96x512x2x128 W shapeCasts_S6x8192x2x128_S96x512x2x128) transposes_S96x512x2x128_S96x2x128x512_0_2_3_1

/-- The rows of ones. -/
def ones : FVec Ideal S96x2x16x512 .f32 := broadcastInDim S96x2x16x512 ![] bcast_S_S96x2x16x512 (constant (F := Ideal) S_ .f32 0x3F800000#32)

/-- The second array: per chunk and head the values' rows, then sixteen rows of ones. -/
def vt (W : FVec Ideal S6x8192x2x128 .f32) : FVec Ideal S96x288x512 .bf16 :=
  truncf (F := Ideal) .bf16 (shapeCast S96x288x512 (concatenate S96x2x144x512 2 [⟨S96x2x128x512, columns W⟩, ⟨S96x2x16x512, ones⟩]
    concatenates_S96x2x128x512_S96x2x16x512_S96x2x144x512_d2) shapeCasts_S96x2x144x512_S96x288x512) bitsLt_bf16_f32

section Launch

variable (m : (ℓ : Loc nD τ sig) → Buf (Elt Ideal) ℓ) (c : Dev nD)

/-- The host hands the kernel `qk` of the queries and the keys. -/
theorem V_qk : V m c main_v9 = qk (m ((c.tc : Thread nD τ).loc main_arg0)) (m ((c.tc : Thread nD τ).loc main_arg1)) := by
  show StableHlo.after hostOps0 (fun b => m (c, b)) (Proc.devRef .tc main_v9) = _
  unfold hostOps0; after_results <;> rfl

/-- … and `vt` of the values. -/
theorem V_vt : V m c main_v15 = vt (m ((c.tc : Thread nD τ).loc main_arg2)) := by
  show StableHlo.after hostOps0 (fun b => m (c, b)) (Proc.devRef .tc main_v15) = _
  unfold hostOps0; after_results <;> rfl

end Launch

/-- The scale's value, as a real. -/
def scale : ℝ := (Real.sqrt 128 * Real.log 2)⁻¹

theorem ofBits_one : Ideal.ofBits .f32 0x3F800000#32 = ((1 : ℝ) : EReal) := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

/-- The host's scale is one over the root of 128 times the logarithm of 2. -/
theorem scaleWord_eq (i : S_.Idx) : (scaleWord i : EReal) = (scale : EReal) := by
  have hl : Real.log 2 ≠ 0 := (Real.log_pos (by norm_num)).ne'
  have hs : Real.sqrt 128 ≠ 0 := by positivity
  have e1 : Ideal.sqrt (Ideal.ofBits .f32 0x43000000#32) = ((Real.sqrt 128 : ℝ) : EReal) := by
    rw [RefValue.ofBits_128]; show (if (128 : ℝ) < 0 then (⊥ : EReal) else _) = _; rw [if_neg (by norm_num)]
  have e2 : Ideal.log (Ideal.ofBits .f32 0x40000000#32) = ((Real.log 2 : ℝ) : EReal) := by
    rw [ofBits_two]; show (if (2 : ℝ) ≤ 0 then (⊥ : EReal) else _) = _; rw [if_neg (by norm_num)]
  show Ideal.div (Ideal.ofBits .f32 0x3F800000#32)
    (Ideal.sqrt (Ideal.ofBits .f32 0x43000000#32) * Ideal.log (Ideal.ofBits .f32 0x40000000#32)) = _
  rw [e1, e2, ← EReal.coe_mul, Softmax.div_coe _ (mul_ne_zero hs hl), ofBits_one, ← EReal.coe_mul, one_mul, scale]

/-- A query's entry of the first array. -/
theorem qk_query (Q : FVec Ideal S6x8192x8x128 .f32) (K : FVec Ideal S6x8192x2x128 .f32) (b : Fin 6) (s : Fin 8192) (h : Fin 2)
    (g : Fin 4) (e : Fin 128) (i : S49152x1280.Idx) (h0 : (i 0).val = b.val * 8192 + s.val)
    (h1 : (i 1).val = h.val * 512 + g.val * 128 + e.val) :
    (qk Q K i : EReal) = (Q (ix4 b s (qHead h g) e) : EReal) * (scale : EReal) := by
  have hb := b.isLt; have hs := s.isLt; have hh := h.isLt; have hg := g.isLt; have he := e.isLt
  show concatenate S49152x1280 1 [⟨S49152x1024, queries Q⟩, ⟨S49152x256, keys K⟩] concatenates_S49152x1024_S49152x256_S49152x1280_d1 i = _
  rw [concatenate_pair_apply_left (1 : Fin 2) (queries Q) (keys K) concatenates_S49152x1024_S49152x256_S49152x1280_d1 i rfl
    (ix2 ⟨(i 0).val, by omega⟩ ⟨(i 1).val, by omega⟩) (fun b => match b with | ⟨0, _⟩ => rfl | ⟨1, _⟩ => rfl)]
  unfold queries
  rw [shapeCast_apply _ _ _ (ix4 b s (qHead h g) e) (by
    rewrite [Shape.rowMajor_val_four, Shape.rowMajor_val_two]
    show ((b.val * 8192 + s.val) * 8 + (h.val * 4 + g.val)) * 128 + e.val = (i 0).val * 1024 + (i 1).val
    omega)]
  show (Q (ix4 b s (qHead h g) e) : EReal) * broadcastInDim S6x8192x8x128 ![] bcast_S_S6x8192x8x128 scaleWord _ = _
  rw [broadcastInDim_apply ![] bcast_S_S6x8192x8x128 scaleWord _ (fun a => a.elim0) (fun a => a.elim0), scaleWord_eq]

/-- A key's entry of the first array. -/
theorem qk_key (Q : FVec Ideal S6x8192x8x128 .f32) (K : FVec Ideal S6x8192x2x128 .f32) (b : Fin 6) (s : Fin 8192) (h : Fin 2)
    (e : Fin 128) (i : S49152x1280.Idx) (h0 : (i 0).val = b.val * 8192 + s.val) (h1 : (i 1).val = 1024 + h.val * 128 + e.val) :
    (qk Q K i : EReal) = (K (ix4 b s h e) : EReal) := by
  have hb := b.isLt; have hs := s.isLt; have hh := h.isLt; have he := e.isLt
  show concatenate S49152x1280 1 [⟨S49152x1024, queries Q⟩, ⟨S49152x256, keys K⟩] concatenates_S49152x1024_S49152x256_S49152x1280_d1 i = _
  rw [concatenate_pair_apply_right (1 : Fin 2) (queries Q) (keys K) concatenates_S49152x1024_S49152x256_S49152x1280_d1 i rfl rfl
    (ix2 ⟨(i 0).val, by omega⟩ ⟨h.val * 128 + e.val, by omega⟩)
    (fun b hb => match b, hb with | ⟨0, _⟩, _ => rfl | ⟨1, _⟩, hb => absurd rfl hb)
    (by show h.val * 128 + e.val + 1024 = (i 1).val; omega)]
  unfold keys
  exact shapeCast_apply _ _ _ (ix4 b s h e) (by
    rewrite [Shape.rowMajor_val_four, Shape.rowMajor_val_two]
    show ((b.val * 8192 + s.val) * 2 + h.val) * 128 + e.val = (i 0).val * 256 + (h.val * 128 + e.val)
    omega)

/-- A value's entry of the second array. -/
theorem vt_value (W : FVec Ideal S6x8192x2x128 .f32) (b : Fin 6) (n : Fin 16) (j : Fin 512) (h : Fin 2) (d : Fin 128)
    (i : S96x288x512.Idx) (h0 : (i 0).val = b.val * 16 + n.val) (h1 : (i 1).val = h.val * 144 + d.val) (h2 : (i 2).val = j.val) :
    (vt W i : EReal) = (W (ix4 b ⟨n.val * 512 + j.val, by omega⟩ h d) : EReal) := by
  have hb := b.isLt; have hn := n.isLt; have hh := h.isLt; have hd := d.isLt; have hj := j.isLt
  show shapeCast S96x288x512 (concatenate S96x2x144x512 2 [⟨S96x2x128x512, columns W⟩, ⟨S96x2x16x512, ones⟩]
    concatenates_S96x2x128x512_S96x2x16x512_S96x2x144x512_d2) shapeCasts_S96x2x144x512_S96x288x512 i = _
  rw [shapeCast_apply _ _ _ (ix4 ⟨b.val * 16 + n.val, by omega⟩ h ⟨d.val, by omega⟩ j) (by
    rewrite [Shape.rowMajor_val_four, Shape.rowMajor_val_three]
    show (((b.val * 16 + n.val) * 2 + h.val) * 144 + d.val) * 512 + j.val = ((i 0).val * 288 + (i 1).val) * 512 + (i 2).val
    omega)]
  rw [concatenate_pair_apply_left (t := S96x2x144x512) (2 : Fin 4) (columns W) ones concatenates_S96x2x128x512_S96x2x16x512_S96x2x144x512_d2 _ rfl
    (ix4 ⟨b.val * 16 + n.val, by omega⟩ h d j) (fun b => match b with | ⟨0, _⟩ => rfl | ⟨1, _⟩ => rfl | ⟨2, _⟩ => rfl | ⟨3, _⟩ => rfl)]
  unfold columns
  rw [transpose_apply [0, 2, 3, 1] _ _ _ (ix4 ⟨b.val * 16 + n.val, by omega⟩ j h d)
    (fun b => match b with | ⟨0, _⟩ => rfl | ⟨1, _⟩ => rfl | ⟨2, _⟩ => rfl | ⟨3, _⟩ => rfl)]
  exact shapeCast_apply _ _ _ _ (by
    rewrite [Shape.rowMajor_val_four, Shape.rowMajor_val_four]
    show ((b.val * 8192 + (n.val * 512 + j.val)) * 2 + h.val) * 128 + d.val = (((b.val * 16 + n.val) * 512 + j.val) * 2 + h.val) * 128 + d.val
    omega)

/-- The rows past the values' are ones. -/
theorem vt_one (W : FVec Ideal S6x8192x2x128 .f32) (p : Fin 96) (j : Fin 512) (h : Fin 2) (r : Fin 144) (hr : 128 ≤ r.val)
    (i : S96x288x512.Idx) (h0 : (i 0).val = p.val) (h1 : (i 1).val = h.val * 144 + r.val) (h2 : (i 2).val = j.val) :
    (vt W i : EReal) = 1 := by
  have hp := p.isLt; have hh := h.isLt; have hr' := r.isLt; have hj := j.isLt
  show shapeCast S96x288x512 (concatenate S96x2x144x512 2 [⟨S96x2x128x512, columns W⟩, ⟨S96x2x16x512, ones⟩]
    concatenates_S96x2x128x512_S96x2x16x512_S96x2x144x512_d2) shapeCasts_S96x2x144x512_S96x288x512 i = _
  rw [shapeCast_apply _ _ _ (ix4 p h r j) (by
    rewrite [Shape.rowMajor_val_four, Shape.rowMajor_val_three]
    show ((p.val * 2 + h.val) * 144 + r.val) * 512 + j.val = ((i 0).val * 288 + (i 1).val) * 512 + (i 2).val
    omega)]
  rw [concatenate_pair_apply_right (t := S96x2x144x512) (2 : Fin 4) (columns W) ones concatenates_S96x2x128x512_S96x2x16x512_S96x2x144x512_d2 _ rfl rfl
    (ix4 p h ⟨r.val - 128, by omega⟩ j)
    (fun b hb => match b, hb with | ⟨0, _⟩, _ => rfl | ⟨1, _⟩, _ => rfl | ⟨2, _⟩, hb => absurd rfl hb | ⟨3, _⟩, _ => rfl)
    (by show r.val - 128 + 128 = r.val; omega)]
  show Ideal.ofBits .f32 0x3F800000#32 = 1
  rw [ofBits_one, EReal.coe_one]

end Cert.Entry

end
-- ==== Proof.Result.lean ====
/- The array the pipeline leaves is the reference's value: block by block, from what a block's element is and from what
   the host hands the kernel. -/
module

public import proofs.«01_k».proof.Proof.Flow
public import proofs.«01_k».proof.Proof.Column
public import proofs.«01_k».proof.Proof.Entry

@[expose] public section

set_option maxRecDepth 16384

noncomputable section

namespace Cert.Result

open Cert.KernelIdeal Cert.KernelIdeal.Gen
open Idealize.ShloMosaic Idealize.ShloMosaic.TcCoe
open Cert.RefValue (qHead score)

/-- Where each window's block lies at a grid point: point `t` is sequence `t / 8`, key head `t / 4 % 2`, row block `t % 4`. -/
theorem index_0 : ∀ t : Fin cfg0.N, win0_0.index t = ![t.val / 8 * 4 + t.val % 4, t.val / 4 % 2] :=
  (by decide +kernel : ∀ t : Fin grid0.N, _)
theorem index_1 : ∀ t : Fin cfg0.N, win0_1.index t = ![t.val / 8, 8 + t.val / 4 % 2] :=
  (by decide +kernel : ∀ t : Fin grid0.N, _)
theorem index_2 : ∀ t : Fin cfg0.N, win0_2.index t = ![t.val / 8, t.val / 4 % 2, 0] :=
  (by decide +kernel : ∀ t : Fin grid0.N, _)
theorem index_3 : ∀ t : Fin cfg0.N, win0_3.index t = ![t.val / 8 * 4 + t.val % 4, t.val / 4 % 2] :=
  (by decide +kernel : ∀ t : Fin grid0.N, _)

variable (m : (ℓ : Loc nD τ sig) → Buf (Elt Ideal) ℓ) (c : Dev nD)

/-- The queries, the keys and the values as launched. -/
abbrev Qs : FVec Ideal S6x8192x8x128 .f32 := m ((c.tc : Thread nD τ).loc main_arg0)
abbrev Ks : FVec Ideal S6x8192x2x128 .f32 := m ((c.tc : Thread nD τ).loc main_arg1)
abbrev Vs : FVec Ideal S6x8192x2x128 .f32 := m ((c.tc : Thread nD τ).loc main_arg2)

/-- A point's sequence, key head and row block. -/
abbrev seqOf (t : Fin cfg0.N) : Fin 6 := ⟨t.val / 8, by have : t.val < 48 := t.isLt; omega⟩
abbrev headOf (t : Fin cfg0.N) : Fin 2 := ⟨t.val / 4 % 2, by omega⟩
abbrev rowOf (t : Fin cfg0.N) (R : Fin 2048) : Fin 8192 := ⟨t.val % 4 * 2048 + R.val, by omega⟩

/-- A point's block of queries. -/
theorem block_query (t : Fin cfg0.N) (R : Fin 2048) (g : Fin 4) (e : Fin 128) (y : S2048x512.Idx)
    (h0 : (y 0).val = R.val) (h1 : (y 1).val = g.val * 128 + e.val) :
    (X0_0 m c t y : EReal) = (Qs m c (ix4 (seqOf t) (rowOf t R) (qHead (headOf t) g) e) : EReal) * (Entry.scale : EReal) := by
  have ht : t.val < 48 := t.isLt
  unfold X0_0 Pipeline.Window.fill
  rw [dif_pos (moved0_0 t y)]
  unfold iblk
  rw [View.read_apply]
  show (V m c main_v9 (((cfg0.win 0).blk t).view.emb _) : EReal) = _
  rw [Entry.V_qk]
  refine Entry.qk_query _ _ (seqOf t) (rowOf t R) (headOf t) g e _ ?_ ?_
  · blk_simp [index_0]
    show (t.val / 8 * 4 + t.val % 4) * 2048 + (y 0).val = t.val / 8 * 8192 + (t.val % 4 * 2048 + R.val)
    omega
  · blk_simp [index_0]
    show (t.val / 4 % 2) * 512 + (y 1).val = t.val / 4 % 2 * 512 + g.val * 128 + e.val
    omega

/-- A point's block of keys. -/
theorem block_key (t : Fin cfg0.N) (k : Fin 8192) (e : Fin 128) :
    (iblk m c 1 t (ix2 k e) : EReal) = (Ks m c (ix4 (seqOf t) k (headOf t) e) : EReal) := by
  have ht : t.val < 48 := t.isLt
  unfold iblk
  rw [View.read_apply]
  show (V m c main_v9 (((cfg0.win 1).blk t).view.emb _) : EReal) = _
  rw [Entry.V_qk]
  refine Entry.qk_key _ _ (seqOf t) k (headOf t) e _ ?_ ?_
  · blk_simp [index_1]
  · blk_simp [index_1]
    show (8 + t.val / 4 % 2) * 128 + e.val = 1024 + t.val / 4 % 2 * 128 + e.val
    omega

/-- A point's block of values, on the values' rows … -/
theorem block_value (t : Fin cfg0.N) (n : Fin 16) (d : Fin 128) (j : Fin 512) :
    (iblk m c 2 t (ix3 n ⟨d.val, by omega⟩ j) : EReal) = (Vs m c (ix4 (seqOf t) ⟨n.val * 512 + j.val, by omega⟩ (headOf t) d) : EReal) := by
  have ht : t.val < 48 := t.isLt
  unfold iblk
  rw [View.read_apply]
  show (V m c main_v15 (((cfg0.win 2).blk t).view.emb _) : EReal) = _
  rw [Entry.V_vt]
  refine Entry.vt_value _ (seqOf t) n j (headOf t) d _ ?_ ?_ ?_
  · blk_simp [index_2]
  · blk_simp [index_2]
  · blk_simp [index_2]

/-- … and on the rows past them. -/
theorem block_one (t : Fin cfg0.N) (n : Fin 16) (r : Fin 144) (j : Fin 512) (hr : 128 ≤ r.val) :
    (show EReal from iblk m c 2 t (ix3 n r j)) = 1 := by
  have ht : t.val < 48 := t.isLt
  unfold iblk
  rw [View.read_apply]
  show (V m c main_v15 (((cfg0.win 2).blk t).view.emb _) : EReal) = _
  rw [Entry.V_vt]
  refine Entry.vt_one _ ⟨t.val / 8 * 16 + n.val, by omega⟩ j (headOf t) r hr _ ?_ ?_ ?_
  · blk_simp [index_2]
  · blk_simp [index_2]
  · blk_simp [index_2]

variable (hQ : ∀ i, Qs m c i = ((Qs m c i).toReal : EReal)) (hK : ∀ i, Ks m c i = ((Ks m c i).toReal : EReal))

include hQ in
/-- A point's queries are the launched ones times the scale, as reals. -/
theorem query_real (t : Fin cfg0.N) (R : Fin 2048) (g : Fin 4) (e : Fin 128) (y : S2048x512.Idx)
    (h0 : (y 0).val = R.val) (h1 : (y 1).val = g.val * 128 + e.val) :
    (X0_0 m c t y : EReal)
      = (((Qs m c (ix4 (seqOf t) (rowOf t R) (qHead (headOf t) g) e)).toReal * Entry.scale : ℝ) : EReal) := by
  rw [block_query m c t R g e y h0 h1, hQ, ← EReal.coe_mul, EReal.toReal_coe]

include hQ hK in
/-- The scores of a point's blocks are the reference's: the kernel's base-2 scores times the logarithm of 2. -/
theorem score_eq (t : Fin cfg0.N) (R : Fin 2048) (g : Fin 4) (k : Fin 8192) :
    score (Qs m c) (Ks m c) (seqOf t) (headOf t) g (rowOf t R) k
      = (∑ e : Fin 128, EReal.toReal (iblk m c 1 t (ix2 k e))
          * EReal.toReal (X0_0 m c t (ix2 R ⟨g.val * 128 + e.val, by omega⟩))) * Real.log 2 := by
  have hl : Real.log 2 ≠ 0 := (Real.log_pos (by norm_num)).ne'
  have hs : Real.sqrt 128 ≠ 0 := by positivity
  unfold score
  rw [Finset.sum_div, Finset.sum_mul]
  refine Finset.sum_congr rfl fun e _ => ?_
  rw [query_real m c hQ t R g e (ix2 R ⟨g.val * 128 + e.val, by omega⟩) rfl rfl, block_key m c t k e, EReal.toReal_coe, Entry.scale]
  field_simp

include hQ hK in
/-- What the body leaves at a point is the reference's value under the point's block. -/
theorem out_eq (t : Fin cfg0.N) (R : Fin 2048) (g : Fin 4) (d : Fin 128) :
    (Flow.outAt m c t (ix2 R ⟨g.val * 128 + d.val, by omega⟩) : EReal)
      = ReferenceIdeal.Read.val_main_v20 (F := Ideal) (Qs m c) (Ks m c) (Vs m c)
          (ix2 ⟨(seqOf t).val * 8192 + (rowOf t R).val, by have := (seqOf t).isLt; have := (rowOf t R).isLt; omega⟩
            ⟨((headOf t).val * 4 + g.val) * 128 + d.val, by have := (headOf t).isLt; omega⟩) := by
  obtain ⟨M, hM⟩ := RefValue.result_at (Qs m c) (Ks m c) (Vs m c) hQ hK (seqOf t) (headOf t) g (rowOf t R) d
  rw [hM]
  unfold Flow.outAt
  refine (Tile.block_value (X0_0 m c t) (iblk m c 1 t) (iblk m c 2 t) (fun y => ?_) (fun y => ?_)
    (fun n r j hr => block_one m c t n r j hr) R g d _ (score_eq m c hQ hK t R g) M).trans ?_
  · have hC : (y 1).val < 512 := (y 1).isLt
    rw [query_real m c hQ t (y 0) ⟨(y 1).val / 128, by omega⟩ ⟨(y 1).val % 128, by omega⟩ y rfl (by show _ = _ / 128 * 128 + _ % 128; omega),
      EReal.toReal_coe]
  · obtain ⟨k, e, rfl⟩ : ∃ k e, y = ix2 k e := ⟨y 0, y 1, by funext a; match a with
      | ⟨0, _⟩ => rfl
      | ⟨1, _⟩ => rfl⟩
    rw [block_key m c t k e]; exact hK _
  · refine Finset.sum_congr rfl fun k _ => ?_
    have hk := k.isLt
    rw [block_value m c t ⟨k.val / 512, by omega⟩ d ⟨k.val % 512, by omega⟩]
    congr 2
    exact congrArg (fun k => ix4 (seqOf t) k (headOf t) d) (Fin.ext (by show k.val / 512 * 512 + k.val % 512 = k.val; omega))

include hQ hK in
/-- THE ARRAY: after the last point the result is the reference's value of the launched queries, keys and values. -/
theorem array_eq : (Flow.dats m 0 c).arrAt 3 cfg0.N
    = ReferenceIdeal.Read.val_main_v20 (F := Ideal) (Qs m c) (Ks m c) (Vs m c) := by
  refine (Flow.dats m 0 c).arrAt_eq_of_covers 3 _ (by decide +kernel) fun t hf y => ?_
  blk_simp
  rw [Flow.after_3]
  have ht : t.val < 48 := t.isLt
  have h0 : (y 0).val < 2048 := (y 0).isLt
  have h1 : (y 1).val < 512 := (y 1).isLt
  have hy : y = ix2 ⟨(y 0).val, h0⟩ ⟨(y 1).val / 128 * 128 + (y 1).val % 128, by omega⟩ := by
    funext a; match a with
      | ⟨0, _⟩ => rfl
      | ⟨1, _⟩ => exact Fin.ext (by show (y 1).val = (y 1).val / 128 * 128 + (y 1).val % 128; omega)
  refine (congrArg (Flow.outAt m c t) hy).trans ((out_eq m c hQ hK t ⟨(y 0).val, h0⟩ ⟨(y 1).val / 128, by omega⟩ ⟨(y 1).val % 128, by omega⟩).trans ?_)
  refine congrArg (ReferenceIdeal.Read.val_main_v20 (F := Ideal) (Qs m c) (Ks m c) (Vs m c)) (funext fun a => ?_)
  match a with
    | ⟨0, _⟩ => exact Fin.ext (by
        blk_simp [index_3]
        show t.val / 8 * 8192 + (t.val % 4 * 2048 + (y 0).val) = (t.val / 8 * 4 + t.val % 4) * 2048 + (y 0).val
        omega)
    | ⟨1, _⟩ => exact Fin.ext (by
        blk_simp [index_3]
        show (t.val / 4 % 2 * 4 + (y 1).val / 128) * 128 + (y 1).val % 128 = t.val / 4 % 2 * 512 + (y 1).val
        omega)

end Cert.Result

end
-- ==== Proof.FfnIn.lean ====
/- The feed-forward part's first call: every block of its result is the squared rectified product of a block of rows and a
   block of columns, so its array is the reference's. -/
module

public import proofs.«01_k».proof.Proof.Gen.Kernel2Ideal.Frame
public import proofs.«01_k».proof.Proof.Gen.Reference2Ideal.Read
public import Idealize.ShloMosaic.Lib.Pipeline.ValueKit
public import Idealize.ShloMosaic.Lib.StableHlo.Run

@[expose] public section

set_option maxRecDepth 16384

noncomputable section

namespace Cert.FfnIn

open Cert.Kernel2Ideal Cert.Kernel2Ideal.Gen
open Idealize.ShloMosaic Idealize.ShloMosaic.TcCoe

/-- Point `t` takes column block `t / 48` and row block `t % 48`. -/
theorem index_0 : ∀ t : Fin cfg0.N, win0_0.index t = ![t.val % 48, 0] := (by decide +kernel : ∀ t : Fin grid0.N, _)
theorem index_1 : ∀ t : Fin cfg0.N, win0_1.index t = ![0, t.val / 48] := (by decide +kernel : ∀ t : Fin grid0.N, _)
theorem index_2 : ∀ t : Fin cfg0.N, win0_2.index t = ![t.val % 48, t.val / 48] := (by decide +kernel : ∀ t : Fin grid0.N, _)

variable (m : (ℓ : Loc nD τ sig) → Buf (Elt Ideal) ℓ) (c : Dev nD)

/-- The activations and the weights as launched. -/
abbrev Hs : FVec Ideal S49152x2048 .f32 := m ((c.tc : Thread nD τ).loc main_arg0)
abbrev Ws : FVec Ideal S2048x8192 .f32 := m ((c.tc : Thread nD τ).loc main_arg1)

/-- The host only casts the activations … -/
theorem V_h : V m c main_v0 = truncf (F := Ideal) .bf16 (Hs m c) bitsLt_bf16_f32 := by
  show StableHlo.after hostOps0 (fun b => m (c, b)) (Proc.devRef .tc main_v0) = _
  unfold hostOps0; after_results <;> rfl

/-- … and the weights. -/
theorem V_w : V m c main_v1 = truncf (F := Ideal) .bf16 (Ws m c) bitsLt_bf16_f32 := by
  show StableHlo.after hostOps0 (fun b => m (c, b)) (Proc.devRef .tc main_v1) = _
  unfold hostOps0; after_results <;> rfl

/-- A point's rows. -/
theorem block_h (t : Fin cfg0.N) (r : Fin 1024) (k : Fin 2048) :
    (iblk m c 0 t (ix2 r k) : EReal) = Hs m c (ix2 ⟨t.val % 48 * 1024 + r.val, by omega⟩ k) := by
  unfold iblk
  rw [View.read_apply]
  show (V m c main_v0 (((cfg0.win 0).blk t).view.emb _) : EReal) = _
  rw [V_h]
  refine congrArg (Hs m c) (funext fun a => ?_)
  match a with
  | ⟨0, _⟩ => exact Fin.ext (by blk_simp [index_0])
  | ⟨1, _⟩ => exact Fin.ext (by blk_simp [index_0])

/-- A point's columns. -/
theorem block_w (t : Fin cfg0.N) (k : Fin 2048) (j : Fin 2048) :
    (iblk m c 1 t (ix2 k j) : EReal) = Ws m c (ix2 k ⟨t.val / 48 * 2048 + j.val, by have : t.val < 192 := t.isLt; omega⟩) := by
  unfold iblk
  rw [View.read_apply]
  show (V m c main_v1 (((cfg0.win 1).blk t).view.emb _) : EReal) = _
  rw [V_w]
  refine congrArg (Ws m c) (funext fun a => ?_)
  match a with
  | ⟨0, _⟩ => exact Fin.ext (by blk_simp [index_1])
  | ⟨1, _⟩ => exact Fin.ext (by blk_simp [index_1])

/-- The squared rectified value. -/
def relu2 (x : EReal) : EReal := max x 0 * max x 0

/-- What the body stores, at an element. -/
theorem pay_apply (x : Vec Ideal S1024x2048 .bf16) (w : Vec Ideal S2048x2048 .bf16) (r : Fin 1024) (j : Fin 2048) :
    (k0_pay1 (F := Ideal) x w (ix2 r j) : EReal) = relu2 (∑ k : Fin 2048, (x (ix2 r k) : EReal) * (w (ix2 k j) : EReal)) := by
  unfold k0_pay1
  pointwise []
  rfl

/-- What the body leaves in the result's block, at an element. -/
theorem out_apply (x : Vec Ideal S1024x2048 .bf16) (w : Vec Ideal S2048x2048 .bf16) (r : Fin 1024) (j : Fin 2048) :
    (out0_2 (F := Ideal) x w (ix2 r j) : EReal) = relu2 (∑ k : Fin 2048, (x (ix2 r k) : EReal) * (w (ix2 k j) : EReal)) := by
  have hx : View.ld x r0_0 = x := View.ld_unit_zero (funext fun a => by fin_cases a <;> rfl) _ _
  have hw : View.ld w r0_1 = w := View.ld_unit_zero (funext fun a => by fin_cases a <;> rfl) _ _
  unfold out0_2
  rw [View.canon_unit_zero (funext fun a => by fin_cases a <;> rfl), hx, hw, pay_apply]

/-- The reference at an element. -/
theorem reference_apply (H : FVec Ideal S49152x2048 .f32) (W : FVec Ideal S2048x8192 .f32) (r : Fin 49152) (j : Fin 8192) :
    (Reference2Ideal.Read.val_main_v3 (F := Ideal) H W (ix2 r j) : EReal)
      = relu2 (∑ k : Fin 2048, (H (ix2 r k) : EReal) * (W (ix2 k j) : EReal)) := by
  show (max (Reference2Ideal.Read.val_main_v0 (F := Ideal) H W (ix2 r j)) (Ideal.ofBits .f32 0#32) : EReal)
    * max (Reference2Ideal.Read.val_main_v0 (F := Ideal) H W (ix2 r j)) (Ideal.ofBits .f32 0#32) = _
  rw [Reference2Ideal.Read.val_main_v0_apply, Ideal.ofBits_zero_f32]
  have hl : ∀ k, Reference2Ideal.Read.lidx_main_v0 (ix2 r j) k = ix2 r k := fun k => funext fun a => by
    match a with
    | ⟨0, _⟩ => rfl
    | ⟨1, _⟩ => rfl
  have hr : ∀ k, Reference2Ideal.Read.ridx_main_v0 (ix2 r j) k = ix2 k j := fun k => funext fun a => by
    match a with
    | ⟨0, _⟩ => rfl
    | ⟨1, _⟩ => rfl
  simp only [hl, hr]
  rfl

/-- THE ARRAY: after the last point the result is the reference's. -/
theorem array_eq : (dats m 0 c).arrAt 2 cfg0.N = Reference2Ideal.Read.val_main_v3 (F := Ideal) (Hs m c) (Ws m c) := by
  refine (dats m 0 c).arrAt_eq_of_covers 2 _ (by decide +kernel) fun t hf y => ?_
  blk_simp
  rw [after0_2]
  have ht : t.val < 192 := t.isLt
  have h0 : (y 0).val < 1024 := (y 0).isLt
  have h1 : (y 1).val < 2048 := (y 1).isLt
  have hy : y = ix2 ⟨(y 0).val, h0⟩ ⟨(y 1).val, h1⟩ := funext fun a => by
    match a with
    | ⟨0, _⟩ => rfl
    | ⟨1, _⟩ => rfl
  refine (congrArg (out0_2 (iblk m c 0 t) (iblk m c 1 t)) hy).trans ((out_apply _ _ _ _).trans ?_)
  simp only [block_h, block_w]
  refine (reference_apply (Hs m c) (Ws m c) ⟨t.val % 48 * 1024 + (y 0).val, by omega⟩ ⟨t.val / 48 * 2048 + (y 1).val, by omega⟩).symm.trans ?_
  refine congrArg (Reference2Ideal.Read.val_main_v3 (F := Ideal) (Hs m c) (Ws m c)) (funext fun a => ?_)
  match a with
  | ⟨0, _⟩ => exact Fin.ext (by blk_simp [index_2]; rfl)
  | ⟨1, _⟩ => exact Fin.ext (by blk_simp [index_2]; rfl)

end Cert.FfnIn

end
-- ==== Proof.Sigmoid.lean ====
/- The two ways of writing a gate: the kernel's by the hyperbolic tangent of the half, the reference's by the exponential. -/
module

public import Idealize.ShloMosaic.PureOps.Ideal
public import Idealize.ShloMosaic.Lib.IdealHost
public import Mathlib.Analysis.SpecialFunctions.Trigonometric.DerivHyp

@[expose] public section

noncomputable section

namespace Cert.Sigmoid

open Idealize.ShloMosaic

/-- The reference's gate. -/
def gate (x : EReal) : EReal := Ideal.div 1 (1 + Ideal.exp (-x))

/-- On the reals the two agree. -/
theorem real_eq (r : ℝ) : 1 / 2 * Real.tanh (1 / 2 * r) + 1 / 2 = 1 / (1 + Real.exp (-r)) := by
  have h1 : Real.exp (-r) = Real.exp (-(1 / 2 * r)) * Real.exp (-(1 / 2 * r)) := by rw [← Real.exp_add]; congr 1; ring
  have h2 : Real.exp (1 / 2 * r) * Real.exp (-(1 / 2 * r)) = 1 := by rw [← Real.exp_add]; simp
  have hp : 0 < Real.exp (1 / 2 * r) := Real.exp_pos _
  have hn : 0 < Real.exp (-(1 / 2 * r)) := Real.exp_pos _
  rw [Real.tanh_eq_sinh_div_cosh, Real.sinh_eq, Real.cosh_eq, h1]
  generalize Real.exp (1 / 2 * r) = p at *
  generalize Real.exp (-(1 / 2 * r)) = q at *
  have hpq : p + q ≠ 0 := by positivity
  have hq2 : 1 + q * q ≠ 0 := by positivity
  field_simp
  nlinarith

/-- The kernel's gate is the reference's, at the infinities too. -/
theorem gate_eq (x : EReal) :
    ((1 / 2 : ℝ) : EReal) * Ideal.tanh (((1 / 2 : ℝ) : EReal) * x) + ((1 / 2 : ℝ) : EReal) = gate x := by
  unfold gate
  induction x using EReal.rec with
  | bot =>
    rw [EReal.coe_mul_bot_of_pos (by norm_num), Ideal.tanh_bot, EReal.neg_bot, Ideal.exp_top, EReal.add_top_of_ne_bot (by decide)]
    rw [Ideal.div, if_neg (by decide), EReal.inv_top, mul_zero, mul_neg, mul_one, ← EReal.coe_neg, ← EReal.coe_add]
    norm_num
  | top =>
    rw [EReal.coe_mul_top_of_pos (by norm_num), Ideal.tanh_top, EReal.neg_top, Ideal.exp_bot, add_zero, mul_one, ← EReal.coe_add]
    rw [Ideal.div, if_neg one_ne_zero, one_mul, ← EReal.coe_one, ← EReal.coe_inv]
    norm_num
  | coe r =>
    have hd : (1 : EReal) + ((Real.exp (-r) : ℝ) : EReal) = ((1 + Real.exp (-r) : ℝ) : EReal) := by push_cast; rfl
    rw [← EReal.coe_mul, Ideal.tanh_coe, ← EReal.coe_mul, ← EReal.coe_add, real_eq, ← EReal.coe_neg, Ideal.exp_coe, hd, Ideal.div,
      if_neg (by have := Real.exp_pos (-r); exact_mod_cast (by positivity : (1 + Real.exp (-r) : ℝ) ≠ 0)), one_mul, ← EReal.coe_inv, one_div]

/-- The constants of the two, as numbers. -/
theorem half : (Ideal.ofBits .f32 0x3F000000#32 : EReal) = ((1 / 2 : ℝ) : EReal) := by
  simp [Ideal.ofBits, Ideal.ieee, -EReal.coe_mul]; norm_num
theorem one : (Ideal.ofBits .f32 0x3F800000#32 : EReal) = 1 := Ideal.ofBits_one_f32

end Cert.Sigmoid

end
-- ==== Proof.Gates.lean ====
/- The gates' call: every block of its result is the gate of a product of a block of rows and a block of columns, so its array
   is the reference's. -/
module

public import proofs.«01_k».proof.Proof.Gen.Kernel3Ideal.Frame
public import proofs.«01_k».proof.Proof.Gen.Reference3Ideal.Read
public import proofs.«01_k».proof.Proof.Sigmoid
public import Idealize.ShloMosaic.Lib.Pipeline.ValueKit
public import Idealize.ShloMosaic.Lib.StableHlo.Run

@[expose] public section

set_option maxRecDepth 16384

noncomputable section

namespace Cert.Gates

open Cert.Kernel3Ideal Cert.Kernel3Ideal.Gen
open Idealize.ShloMosaic Idealize.ShloMosaic.TcCoe

/-- Point `t` takes column block `t / 48` and row block `t % 48`. -/
theorem index_0 : ∀ t : Fin cfg0.N, win0_0.index t = ![t.val % 48, 0] := (by decide +kernel : ∀ t : Fin grid0.N, _)
theorem index_1 : ∀ t : Fin cfg0.N, win0_1.index t = ![0, t.val / 48] := (by decide +kernel : ∀ t : Fin grid0.N, _)
theorem index_2 : ∀ t : Fin cfg0.N, win0_2.index t = ![t.val % 48, t.val / 48] := (by decide +kernel : ∀ t : Fin grid0.N, _)

variable (m : (ℓ : Loc nD τ sig) → Buf (Elt Ideal) ℓ) (c : Dev nD)

/-- The activations and the weights as launched. -/
abbrev Hs : FVec Ideal S49152x2048 .f32 := m ((c.tc : Thread nD τ).loc main_arg0)
abbrev Ws : FVec Ideal S2048x11264 .f32 := m ((c.tc : Thread nD τ).loc main_arg1)

/-- The host only casts the activations … -/
theorem V_h : V m c main_v0 = truncf (F := Ideal) .bf16 (Hs m c) bitsLt_bf16_f32 := by
  show StableHlo.after hostOps0 (fun b => m (c, b)) (Proc.devRef .tc main_v0) = _
  unfold hostOps0; after_results <;> rfl

/-- … and the columns of the weights it takes. -/
theorem V_w : V m c main_v2 = truncf (F := Ideal) .bf16
    (extractStridedSlice S2048x6144 ![0, 5120] (Ws m c) slices_S2048x11264_S2048x6144_0_5120) bitsLt_bf16_f32 := by
  show StableHlo.after hostOps0 (fun b => m (c, b)) (Proc.devRef .tc main_v2) = _
  unfold hostOps0; after_results <;> rfl

/-- A point's rows. -/
theorem block_h (t : Fin cfg0.N) (r : Fin 1024) (k : Fin 2048) :
    (iblk m c 0 t (ix2 r k) : EReal) = Hs m c (ix2 ⟨t.val % 48 * 1024 + r.val, by omega⟩ k) := by
  unfold iblk
  rw [View.read_apply]
  show (V m c main_v0 (((cfg0.win 0).blk t).view.emb _) : EReal) = _
  rw [V_h]
  refine congrArg (Hs m c) (funext fun a => ?_)
  match a with
  | ⟨0, _⟩ => exact Fin.ext (by blk_simp [index_0])
  | ⟨1, _⟩ => exact Fin.ext (by blk_simp [index_0])

/-- A point's columns. -/
theorem block_w (t : Fin cfg0.N) (k : Fin 2048) (j : Fin 2048) :
    (iblk m c 1 t (ix2 k j) : EReal)
      = Ws m c (ix2 k ⟨5120 + (t.val / 48 * 2048 + j.val), by have : t.val < 144 := t.isLt; omega⟩) := by
  unfold iblk
  rw [View.read_apply]
  show (V m c main_v2 (((cfg0.win 1).blk t).view.emb _) : EReal) = _
  rw [V_w]
  refine (extractStridedSlice_apply ![0, 5120] (Ws m c) slices_S2048x11264_S2048x6144_0_5120 _ _ fun a => ?_)
  match a with
  | ⟨0, _⟩ => blk_simp [index_1]; show k.val = 0 * 2048 + k.val; omega
  | ⟨1, _⟩ => blk_simp [index_1]; rfl

/-- What the body stores, at an element. -/
theorem pay_apply (x : Vec Ideal S1024x2048 .bf16) (w : Vec Ideal S2048x2048 .bf16) (r : Fin 1024) (j : Fin 2048) :
    (k0_pay1 (F := Ideal) x w (ix2 r j) : EReal) = Sigmoid.gate (∑ k : Fin 2048, (x (ix2 r k) : EReal) * (w (ix2 k j) : EReal)) := by
  unfold k0_pay1
  pointwise []
  rw [← Sigmoid.gate_eq, Sigmoid.half]

/-- What the body leaves in the result's block, at an element. -/
theorem out_apply (x : Vec Ideal S1024x2048 .bf16) (w : Vec Ideal S2048x2048 .bf16) (r : Fin 1024) (j : Fin 2048) :
    (out0_2 (F := Ideal) x w (ix2 r j) : EReal) = Sigmoid.gate (∑ k : Fin 2048, (x (ix2 r k) : EReal) * (w (ix2 k j) : EReal)) := by
  have hx : View.ld x r0_0 = x := View.ld_unit_zero (funext fun a => by fin_cases a <;> rfl) _ _
  have hw : View.ld w r0_1 = w := View.ld_unit_zero (funext fun a => by fin_cases a <;> rfl) _ _
  unfold out0_2
  rw [View.canon_unit_zero (funext fun a => by fin_cases a <;> rfl), hx, hw, pay_apply]

/-- The reference at an element. -/
theorem reference_apply (H : FVec Ideal S49152x2048 .f32) (W : FVec Ideal S2048x11264 .f32) (r : Fin 49152) (j : Fin 6144) :
    (Reference3Ideal.Read.val_main_v7 (F := Ideal) H W (ix2 r j) : EReal)
      = Sigmoid.gate (∑ k : Fin 2048, (H (ix2 r k) : EReal) * (W (ix2 k ⟨5120 + j.val, by omega⟩) : EReal)) := by
  show Ideal.div (Ideal.ofBits .f32 0x3F800000#32) (Ideal.ofBits .f32 0x3F800000#32
    + Ideal.exp (-(Reference3Ideal.Read.val_main_v1 (F := Ideal) H W (ix2 r j)))) = _
  rw [Reference3Ideal.Read.val_main_v1_apply, Reference3Ideal.Read.val_main_v0_apply, Sigmoid.one]
  have hl : ∀ k, Reference3Ideal.Read.lidx_main_v0 (Reference3Ideal.Read.idx_main_v1 (ix2 r j)) k = ix2 r k := fun k => funext fun a => by
    match a with
    | ⟨0, _⟩ => rfl
    | ⟨1, _⟩ => rfl
  have hr : ∀ k, Reference3Ideal.Read.ridx_main_v0 (Reference3Ideal.Read.idx_main_v1 (ix2 r j)) k = ix2 k ⟨5120 + j.val, by omega⟩ :=
    fun k => funext fun a => by
    match a with
    | ⟨0, _⟩ => rfl
    | ⟨1, _⟩ => rfl
  simp only [hl, hr]
  rfl

/-- THE ARRAY: after the last point the result is the reference's. -/
theorem array_eq : (dats m 0 c).arrAt 2 cfg0.N = Reference3Ideal.Read.val_main_v7 (F := Ideal) (Hs m c) (Ws m c) := by
  refine (dats m 0 c).arrAt_eq_of_covers 2 _ (by decide +kernel) fun t hf y => ?_
  blk_simp
  rw [after0_2]
  have ht : t.val < 144 := t.isLt
  have h0 : (y 0).val < 1024 := (y 0).isLt
  have h1 : (y 1).val < 2048 := (y 1).isLt
  have hy : y = ix2 ⟨(y 0).val, h0⟩ ⟨(y 1).val, h1⟩ := funext fun a => by
    match a with
    | ⟨0, _⟩ => rfl
    | ⟨1, _⟩ => rfl
  refine (congrArg (out0_2 (iblk m c 0 t) (iblk m c 1 t)) hy).trans ((out_apply _ _ _ _).trans ?_)
  simp only [block_h, block_w]
  refine (reference_apply (Hs m c) (Ws m c) ⟨t.val % 48 * 1024 + (y 0).val, by omega⟩ ⟨t.val / 48 * 2048 + (y 1).val, by omega⟩).symm.trans ?_
  refine congrArg (Reference3Ideal.Read.val_main_v7 (F := Ideal) (Hs m c) (Ws m c)) (funext fun a => ?_)
  match a with
  | ⟨0, _⟩ => exact Fin.ext (by blk_simp [index_2]; rfl)
  | ⟨1, _⟩ => exact Fin.ext (by blk_simp [index_2]; rfl)

end Cert.Gates

end
-- ==== Proof.Xy.lean ====
/- The projection for the recurrence's two inputs: every block of its result is the product of a block of rows and the
   call's columns, so its array is the reference's. -/
module

public import proofs.«01_k».proof.Proof.Gen.Kernel4Ideal.Frame
public import proofs.«01_k».proof.Proof.Gen.Reference4Ideal.Read
public import Idealize.ShloMosaic.Lib.Pipeline.ValueKit
public import Idealize.ShloMosaic.Lib.StableHlo.Run

@[expose] public section

set_option maxRecDepth 16384

noncomputable section

namespace Cert.Xy

open Cert.Kernel4Ideal Cert.Kernel4Ideal.Gen
open Idealize.ShloMosaic Idealize.ShloMosaic.TcCoe

/-- Point `t` takes column block `t / 48` and row block `t % 48`. -/
theorem index_0 : ∀ t : Fin cfg0.N, win0_0.index t = ![t.val % 48, 0] := (by decide +kernel : ∀ t : Fin grid0.N, _)
theorem index_1 : ∀ t : Fin cfg0.N, win0_1.index t = ![0, t.val / 48] := (by decide +kernel : ∀ t : Fin grid0.N, _)
theorem index_2 : ∀ t : Fin cfg0.N, win0_2.index t = ![t.val % 48, t.val / 48] := (by decide +kernel : ∀ t : Fin grid0.N, _)

variable (m : (ℓ : Loc nD τ sig) → Buf (Elt Ideal) ℓ) (c : Dev nD)

/-- The activations and the weights as launched. -/
abbrev Hs : FVec Ideal S49152x2048 .f32 := m ((c.tc : Thread nD τ).loc main_arg0)
abbrev Ws : FVec Ideal S2048x11264 .f32 := m ((c.tc : Thread nD τ).loc main_arg1)

/-- The host only casts the activations … -/
theorem V_h : V m c main_v0 = truncf (F := Ideal) .bf16 (Hs m c) bitsLt_bf16_f32 := by
  show StableHlo.after hostOps0 (fun b => m (c, b)) (Proc.devRef .tc main_v0) = _
  unfold hostOps0; after_results <;> rfl

/-- … and the columns of the weights it takes. -/
theorem V_w : V m c main_v2 = truncf (F := Ideal) .bf16
    (extractStridedSlice S2048x2048 ![0, 3072] (Ws m c) slices_S2048x11264_S2048x2048_0_3072) bitsLt_bf16_f32 := by
  show StableHlo.after hostOps0 (fun b => m (c, b)) (Proc.devRef .tc main_v2) = _
  unfold hostOps0; after_results <;> rfl

/-- A point's rows. -/
theorem block_h (t : Fin cfg0.N) (r : Fin 1024) (k : Fin 2048) :
    (iblk m c 0 t (ix2 r k) : EReal) = Hs m c (ix2 ⟨t.val % 48 * 1024 + r.val, by omega⟩ k) := by
  unfold iblk
  rw [View.read_apply]
  show (V m c main_v0 (((cfg0.win 0).blk t).view.emb _) : EReal) = _
  rw [V_h]
  refine congrArg (Hs m c) (funext fun a => ?_)
  match a with
  | ⟨0, _⟩ => exact Fin.ext (by blk_simp [index_0])
  | ⟨1, _⟩ => exact Fin.ext (by blk_simp [index_0])

/-- A point's columns. -/
theorem block_w (t : Fin cfg0.N) (k : Fin 2048) (j : Fin 2048) :
    (iblk m c 1 t (ix2 k j) : EReal)
      = Ws m c (ix2 k ⟨3072 + (t.val / 48 * 2048 + j.val), by have : t.val < 48 := t.isLt; omega⟩) := by
  unfold iblk
  rw [View.read_apply]
  show (V m c main_v2 (((cfg0.win 1).blk t).view.emb _) : EReal) = _
  rw [V_w]
  refine (extractStridedSlice_apply ![0, 3072] (Ws m c) slices_S2048x11264_S2048x2048_0_3072 _ _ fun a => ?_)
  match a with
  | ⟨0, _⟩ => blk_simp [index_1]; show k.val = 0 * 2048 + k.val; omega
  | ⟨1, _⟩ => blk_simp [index_1]; rfl

/-- What the body stores, at an element. -/
theorem pay_apply (x : Vec Ideal S1024x2048 .bf16) (w : Vec Ideal S2048x2048 .bf16) (r : Fin 1024) (j : Fin 2048) :
    (k0_pay1 (F := Ideal) x w (ix2 r j) : EReal) = (∑ k : Fin 2048, (x (ix2 r k) : EReal) * (w (ix2 k j) : EReal)) := by
  unfold k0_pay1
  pointwise []

/-- What the body leaves in the result's block, at an element. -/
theorem out_apply (x : Vec Ideal S1024x2048 .bf16) (w : Vec Ideal S2048x2048 .bf16) (r : Fin 1024) (j : Fin 2048) :
    (out0_2 (F := Ideal) x w (ix2 r j) : EReal) = (∑ k : Fin 2048, (x (ix2 r k) : EReal) * (w (ix2 k j) : EReal)) := by
  have hx : View.ld x r0_0 = x := View.ld_unit_zero (funext fun a => by fin_cases a <;> rfl) _ _
  have hw : View.ld w r0_1 = w := View.ld_unit_zero (funext fun a => by fin_cases a <;> rfl) _ _
  unfold out0_2
  rw [View.canon_unit_zero (funext fun a => by fin_cases a <;> rfl), hx, hw, pay_apply]

/-- The reference at an element. -/
theorem reference_apply (H : FVec Ideal S49152x2048 .f32) (W : FVec Ideal S2048x11264 .f32) (r : Fin 49152) (j : Fin 2048) :
    (Reference4Ideal.Read.val_main_v1 (F := Ideal) H W (ix2 r j) : EReal)
      = (∑ k : Fin 2048, (H (ix2 r k) : EReal) * (W (ix2 k ⟨3072 + j.val, by omega⟩) : EReal)) := by
  rw [Reference4Ideal.Read.val_main_v1_apply, Reference4Ideal.Read.val_main_v0_apply]
  have hl : ∀ k, Reference4Ideal.Read.lidx_main_v0 (Reference4Ideal.Read.idx_main_v1 (ix2 r j)) k = ix2 r k := fun k => funext fun a => by
    match a with
    | ⟨0, _⟩ => rfl
    | ⟨1, _⟩ => rfl
  have hr : ∀ k, Reference4Ideal.Read.ridx_main_v0 (Reference4Ideal.Read.idx_main_v1 (ix2 r j)) k = ix2 k ⟨3072 + j.val, by omega⟩ :=
    fun k => funext fun a => by
    match a with
    | ⟨0, _⟩ => rfl
    | ⟨1, _⟩ => rfl
  simp only [hl, hr]

/-- THE ARRAY: after the last point the result is the reference's. -/
theorem array_eq : (dats m 0 c).arrAt 2 cfg0.N = Reference4Ideal.Read.val_main_v1 (F := Ideal) (Hs m c) (Ws m c) := by
  refine (dats m 0 c).arrAt_eq_of_covers 2 _ (by decide +kernel) fun t hf y => ?_
  blk_simp
  rw [after0_2]
  have ht : t.val < 48 := t.isLt
  have h0 : (y 0).val < 1024 := (y 0).isLt
  have h1 : (y 1).val < 2048 := (y 1).isLt
  have hy : y = ix2 ⟨(y 0).val, h0⟩ ⟨(y 1).val, h1⟩ := funext fun a => by
    match a with
    | ⟨0, _⟩ => rfl
    | ⟨1, _⟩ => rfl
  refine (congrArg (out0_2 (iblk m c 0 t) (iblk m c 1 t)) hy).trans ((out_apply _ _ _ _).trans ?_)
  simp only [block_h, block_w]
  refine (reference_apply (Hs m c) (Ws m c) ⟨t.val % 48 * 1024 + (y 0).val, by omega⟩ ⟨t.val / 48 * 2048 + (y 1).val, by omega⟩).symm.trans ?_
  refine congrArg (Reference4Ideal.Read.val_main_v1 (F := Ideal) (Hs m c) (Ws m c)) (funext fun a => ?_)
  match a with
  | ⟨0, _⟩ => exact Fin.ext (by blk_simp [index_2]; rfl)
  | ⟨1, _⟩ => exact Fin.ext (by blk_simp [index_2]; rfl)

end Cert.Xy

end
-- ==== Proof.OutRow.lean ====
/- The feed-forward part's second call: what its last step stores, a group of 256 rows and a slab of 256 columns at a time. -/
module

public import proofs.«01_k».proof.Proof.Gen.Kernel5Ideal.Skeleton
public import Idealize.ShloMosaic.Lib.Pipeline.ValueKit
public import Idealize.ShloMosaic.Lib.ValueLayout

@[expose] public section

set_option maxRecDepth 16384

noncomputable section

namespace Cert.FfnOut

open Cert.Kernel5Ideal Cert.Kernel5Ideal.Gen
open Idealize.ShloMosaic Idealize.ShloMosaic.TcCoe

variable {F : FTy → Type} [FloatOps F]

/-- A group of 256 rows. -/
def rows {n : ℕ} {e : EltTy} (x : Vec F ⟨2, ![1024, n]⟩ e) (r : Fin 4) : Vec F ⟨2, ![256, n]⟩ e := fun y =>
  x (ix2 ⟨r.val * 256 + (y 0).val, by have h : (y 0).val < 256 := (y 0).isLt; omega⟩ (y 1))

/-- The block that the last step leaves: the residual plus the normalised row times the gain. -/
def lastOut (x0 : Vec F S1024x1024 .bf16) (x1 : Vec F S1024x2048 .bf16) (o : Vec F S1024x2048 .f32) (X : Vec F S8x1024x256 .f32)
    (g : Vec F S1x2048 .f32) : Vec F S1024x2048 .f32 := fun y =>
  have h0 : (y 0).val < 1024 := (y 0).isLt
  have h1 : (y 1).val < 2048 := (y 1).isLt
  FloatOps.addf (X (ix3 ⟨(y 1).val / 256, by omega⟩ (y 0) ⟨(y 1).val % 256, by omega⟩))
    (FloatOps.mulf (FloatOps.mulf
      (k0_pay4 (rows x0 ⟨(y 0).val / 256, by omega⟩) x1 (rows o ⟨(y 0).val / 256, by omega⟩) (ix2 ⟨(y 0).val % 256, by omega⟩ (y 1)))
      (k0_pay5 (rows x0 ⟨(y 0).val / 256, by omega⟩) x1 (rows o ⟨(y 0).val / 256, by omega⟩) (ix2 ⟨(y 0).val % 256, by omega⟩ 0)))
      (g (ix2 0 (y 1))))

/-- A stored slab at an element. -/
theorem slab_apply (o : ℕ) (y : FVec F S256x2048 .f32) (rs : FVec F S256x1 .f32) (xs : Vec F S1x256x256 .f32) (g : Vec F S1x256 .f32)
    (ho : o + 256 ≤ 2048) (h1 : S1x256x256.ShapeCasts S256x256) (h2 : S256x2048.Slices ![0, o] S256x256) (h3 : S256x1.Broadcasts S256x256)
    (h4 : S1x256.ShapeCasts S1x256) (h5 : S1x256.Broadcasts S256x256) (p q : Fin 256) :
    addf (shapeCast S256x256 xs h1) (mulf (mulf (extractStridedSlice S256x256 ![0, o] y h2) (broadcastTo S256x256 rs h3))
        (broadcastTo S256x256 (shapeCast S1x256 g h4) h5)) (ix2 p q)
      = FloatOps.addf (xs (ix3 0 p q)) (FloatOps.mulf (FloatOps.mulf (y (ix2 p ⟨o + q.val, by omega⟩)) (rs (ix2 p 0))) (g (ix2 0 q))) := by
  show FloatOps.addf (shapeCast S256x256 xs h1 (ix2 p q)) (FloatOps.mulf (FloatOps.mulf (extractStridedSlice S256x256 ![0, o] y h2 (ix2 p q))
    (broadcastTo S256x256 rs h3 (ix2 p q))) (broadcastTo S256x256 (shapeCast S1x256 g h4) h5 (ix2 p q))) = _
  have e1 : shapeCast S256x256 xs h1 (ix2 p q) = xs (ix3 0 p q) := ValueIdx.shapeCast_1ab_ab_apply xs h1 p q
  have e2 : extractStridedSlice S256x256 ![0, o] y h2 (ix2 p q) = y (ix2 p ⟨o + q.val, by omega⟩) := by
    refine congrArg y (funext fun a => ?_)
    match a with
    | ⟨0, _⟩ => exact Fin.ext (show 0 + p.val = p.val by omega)
    | ⟨1, _⟩ => rfl
  have e3 : broadcastTo S256x256 rs h3 (ix2 p q) = rs (ix2 p 0) := by
    refine congrArg rs (funext fun a => ?_)
    match a with
    | ⟨0, _⟩ => rfl
    | ⟨1, _⟩ => rfl
  have e4 : broadcastTo S256x256 (shapeCast S1x256 g h4) h5 (ix2 p q) = g (ix2 0 q) := by
    rw [shapeCast_self]
    refine congrArg g (funext fun a => ?_)
    match a with
    | ⟨0, _⟩ => rfl
    | ⟨1, _⟩ => rfl
  rw [e1, e2, e3, e4]

/-- A stored slab is the block's result there. -/
theorem piece (x0 : Vec F S1024x1024 .bf16) (x1 : Vec F S1024x2048 .bf16) (o : Vec F S1024x2048 .f32) (X : Vec F S8x1024x256 .f32)
    (g : Vec F S1x2048 .f32) (o0 o1 : ℕ) (b0 : o0 < 1024) (b1 : o1 < 2048) (m0 : o0 % 256 = 0) (m1 : o1 % 256 = 0)
    (a : Vec F S256x1024 .bf16) (w : Vec F S1024x2048 .bf16) (ov : Vec F S256x2048 .f32) (xs : Vec F S1x256x256 .f32) (gv : Vec F S1x256 .f32)
    (ha : a = rows x0 ⟨o0 / 256, by omega⟩) (hw : w = x1) (ho : ov = rows o ⟨o0 / 256, by omega⟩)
    (hxs : ∀ p q : Fin 256, xs (ix3 0 p q) = X (ix3 ⟨o1 / 256, by omega⟩ ⟨o0 + p.val, by omega⟩ q))
    (hg : ∀ q : Fin 256, gv (ix2 0 q) = g (ix2 0 ⟨o1 + q.val, by omega⟩))
    (inb : ∀ a, ![o0, o1] a + S256x256.size a ≤ S1024x2048.size a)
    (h1 : S1x256x256.ShapeCasts S256x256) (h2 : S256x2048.Slices ![0, o1] S256x256) (h3 : S256x1.Broadcasts S256x256)
    (h4 : S1x256.ShapeCasts S1x256) (h5 : S1x256.Broadcasts S256x256) (x : S256x256.Idx) :
    addf (shapeCast S256x256 xs h1) (mulf (mulf (extractStridedSlice S256x256 ![0, o1] (k0_pay4 a w ov) h2)
        (broadcastTo S256x256 (k0_pay5 a w ov) h3)) (broadcastTo S256x256 (shapeCast S1x256 gv h4) h5)) x
      = lastOut x0 x1 o X g ((Rect.unit (s := S1024x2048) ![o0, o1] S256x256.size inb).emb x) := by
  subst ha hw ho
  have l0 : (x 0).val < 256 := (x 0).isLt
  have l1 : (x 1).val < 256 := (x 1).isLt
  obtain ⟨p, hp⟩ : ∃ p : Fin 256, p = ⟨(x 0).val, l0⟩ := ⟨_, rfl⟩
  obtain ⟨q, hq⟩ : ∃ q : Fin 256, q = ⟨(x 1).val, l1⟩ := ⟨_, rfl⟩
  have hx : x = ix2 p q := by
    subst hp hq
    funext a
    match a with
    | ⟨0, _⟩ => rfl
    | ⟨1, _⟩ => rfl
  subst hx
  rw [slab_apply o1 _ _ _ _ (by omega), hxs, hg]
  have hy : (Rect.unit (s := S1024x2048) ![o0, o1] S256x256.size inb).emb (ix2 p q)
      = ix2 (⟨o0 + p.val, by omega⟩ : Fin 1024) (⟨o1 + q.val, by omega⟩ : Fin 2048) := by
    funext a
    match a with
    | ⟨0, _⟩ => exact Fin.ext (show o0 + 1 * p.val = o0 + p.val by omega)
    | ⟨1, _⟩ => exact Fin.ext (show o1 + 1 * q.val = o1 + q.val by omega)
  rw [hy]
  have d0 : (o0 + p.val) / 256 = o0 / 256 := by omega
  have d1 : (o1 + q.val) / 256 = o1 / 256 := by omega
  have r0 : (o0 + p.val) % 256 = p.val := by omega
  have r1 : (o1 + q.val) % 256 = q.val := by omega
  show _ = FloatOps.addf (X (ix3 ⟨(o1 + q.val) / 256, _⟩ ⟨o0 + p.val, _⟩ ⟨(o1 + q.val) % 256, _⟩))
    (FloatOps.mulf (FloatOps.mulf
      (k0_pay4 (rows x0 ⟨(o0 + p.val) / 256, _⟩) w (rows o ⟨(o0 + p.val) / 256, _⟩) (ix2 ⟨(o0 + p.val) % 256, _⟩ ⟨o1 + q.val, _⟩))
      (k0_pay5 (rows x0 ⟨(o0 + p.val) / 256, _⟩) w (rows o ⟨(o0 + p.val) / 256, _⟩) (ix2 ⟨(o0 + p.val) % 256, _⟩ 0)))
      (g (ix2 0 ⟨o1 + q.val, _⟩)))
  simp only [d0, d1, r0, r1]

/-- A slab of the residual's buffer replaced. -/
def put (k : Fin 8) (x : Vec F S1024x256 .f32) (s : Vec F S8x1024x256 .f32) : Vec F S8x1024x256 .f32 := fun y =>
  if (y 0).val = k.val then x (ix2 (y 1) (y 2)) else s y

end Cert.FfnOut

end
-- ==== Proof.OutRun.lean ====
/- The feed-forward part's second call: its body, step by step. -/
module

public import proofs.«01_k».proof.Proof.OutRow
public import proofs.«01_k».proof.Proof.Gen.Kernel5Ideal.Frame
public import Idealize.ShloMosaic.Lib.Tactic
public import Idealize.ShloMosaic.Lib.Tactic.Stretches
public import Idealize.ShloMosaic.Lib.Writes
public import Idealize.ShloMosaic.Lib.WholeRead
public import Idealize.ShloMosaic.Lib.VecWindow

@[expose] public section

set_option maxRecDepth 16384

noncomputable section

namespace Cert.FfnOut

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- When the three branches are taken. -/
theorem conds (i : grid0.Coords) : (k0_cond1 i = 1#1 ↔ (i 1).val = 0) ∧ (k0_cond2 i = 1#1 ↔ 0 < (i 1).val ∧ (i 1).val < 7)
    ∧ (k0_cond3 i = 1#1 ↔ (i 1).val = 7) := by
  have h : (i 1).val < 8 := (i 1).isLt
  unfold k0_cond1 k0_cond2 k0_cond3
  generalize (i 1).val = n at *
  interval_cases n <;> decide

/-- The residual's buffer after the step's store. -/
theorem scratch_read (i : grid0.Coords) (arg8 : Memref sig .tc .vmem S8x1024x256 .f32) (x : Vec F S1024x256 .f32)
    (f : arg8.view.ty.Contents (Elt F)) (inb : ∀ a, k0_off1 i a + S1x1024x256.size a ≤ S8x1024x256.size a) :
    arg8.view.read (Elt F) (arg8.view.writes (Elt F) f [⟨Rect.unit (s := S8x1024x256) (k0_off1 i) S1x1024x256.size inb, k0_pay1 x⟩])
      = put (i 1) x (arg8.view.read (Elt F) f) := by
  funext y
  unfold put
  by_cases h : (y 0).val = (i 1).val
  · rw [if_pos h]
    refine (View.read_writes_cons_hit_of_coords _ _ _ _ _ (ix3 0 (y 1) (y 2)) y ?_).trans ?_
    · intro a
      match a with
      | ⟨0, _⟩ => show (y 0).val = k0_off1 i 0 + 1 * 0; rw [k0_off1_eq]; exact h
      | ⟨1, _⟩ => show (y 1).val = k0_off1 i 1 + 1 * (y 1).val; rw [k0_off1_eq]; exact (by omega : (y 1).val = 0 + 1 * (y 1).val)
      | ⟨2, _⟩ => show (y 2).val = k0_off1 i 2 + 1 * (y 2).val; rw [k0_off1_eq]; exact (by omega : (y 2).val = 0 + 1 * (y 2).val)
    · exact ValueIdx.shapeCast_ab_1ab_apply x _ 0 (y 1) (y 2)
  · rw [if_neg h]
    refine (View.read_writes_cons_miss_of_axis _ _ _ _ y 0 (i 1).val 1 ?_ rfl rfl ?_).trans rfl
    · show k0_off1 i 0 = _; rw [k0_off1_eq]; rfl
    · omega

/-- Reading a group of rows. -/
theorem rows_read {sig : RefSig} {n : ℕ} {e : EltTy} (mm : Memref sig .tc .vmem ⟨2, ![1024, n]⟩ e) (h : mm.IsWhole) (x : Vec F ⟨2, ![1024, n]⟩ e) (r : ℕ)
    (m0 : r % 256 = 0) (b0 : r < 1024) (inb : ∀ a, ![r, 0] a + (⟨2, ![256, n]⟩ : Shape).size a ≤ (⟨2, ![1024, n]⟩ : Shape).size a) :
    View.readAt (Elt F) mm.view (Rect.unit (s := ⟨2, ![1024, n]⟩) ![r, 0] (⟨2, ![256, n]⟩ : Shape).size inb).toLoadRect (h.unread x)
      = rows x ⟨r / 256, by omega⟩ := by
  funext y
  refine (h.readAt_unread x _ _).trans (congrArg x (funext fun a => ?_))
  match a with
  | ⟨0, _⟩ => exact Fin.ext (show r + 1 * (y 0).val = r / 256 * 256 + (y 0).val by omega)
  | ⟨1, _⟩ => exact Fin.ext (show 0 + 1 * (y 1).val = (y 1).val by omega)

/-- Reading 256 of the gains. -/
theorem gain_read {sig : RefSig} (mm : Memref sig .tc .vmem S1x2048 .f32) (h : mm.IsWhole) (x : Vec F S1x2048 .f32) (o : ℕ) (b : o + 256 ≤ 2048)
    (inb : ∀ a, ![0, o] a + S1x256.size a ≤ S1x2048.size a) (q : Fin 256) :
    View.readAt (Elt F) mm.view (Rect.unit (s := S1x2048) ![0, o] S1x256.size inb).toLoadRect (h.unread x) (ix2 0 q)
      = x (ix2 0 ⟨o + q.val, by omega⟩) := by
  refine (h.readAt_unread x _ _).trans (congrArg x (funext fun a => ?_))
  match a with
  | ⟨0, _⟩ => rfl
  | ⟨1, _⟩ => exact Fin.ext (show o + 1 * q.val = o + q.val by omega)

/-- Reading 256 rows of one slab of the residual's buffer. -/
theorem slab_read {sig : RefSig} (mm : Memref sig .tc .vmem S8x1024x256 .f32) (f : mm.view.ty.Contents (Elt F)) (X : Vec F S8x1024x256 .f32)
    (h : mm.view.read (Elt F) f = X) (k o r : ℕ) (hk : k = o / 256) (b : o < 2048) (br : r + 256 ≤ 1024)
    (inb : ∀ a, ![k, r, 0] a + S1x256x256.size a ≤ S8x1024x256.size a) (p q : Fin 256) :
    View.readAt (Elt F) mm.view (Rect.unit (s := S8x1024x256) ![k, r, 0] S1x256x256.size inb).toLoadRect f (ix3 0 p q)
      = X (ix3 ⟨o / 256, by omega⟩ ⟨r + p.val, by omega⟩ q) := by
  subst hk
  subst h
  refine congrArg (mm.view.read (Elt F) f) (funext fun a => ?_)
  match a with
  | ⟨0, _⟩ => exact Fin.ext (show o / 256 + 1 * 0 = o / 256 by omega)
  | ⟨1, _⟩ => exact Fin.ext (show r + 1 * p.val = r + p.val by omega)
  | ⟨2, _⟩ => exact Fin.ext (show 0 + 1 * q.val = q.val by omega)

/-- A position's slab is the first of a list of slabs or among the others: slabs are numbered eight to a group of rows. -/
theorem cover_cons (o0 o1 m : ℕ) (hm : o0 / 256 * 8 + o1 / 256 = m) (h0 : o0 % 256 = 0) (h1 : o1 % 256 = 0) (h1' : o1 < 2048)
    (inb : ∀ a, ![o0, o1] a + S256x256.size a ≤ S1024x2048.size a) (pay : S256x256.Idx → Elt F .f32)
    (L : List (View.Piece (Elt F) S1024x2048 .f32)) (y : S1024x2048.Idx)
    (h : (y 0).val / 256 * 8 + (y 1).val / 256 ≠ m → ∃ p ∈ L, y ∈ p.1.set) :
    ∃ p ∈ (⟨Rect.unit (s := S1024x2048) ![o0, o1] S256x256.size inb, pay⟩ : View.Piece (Elt F) S1024x2048 .f32) :: L, y ∈ p.1.set := by
  by_cases hy : (y 0).val / 256 * 8 + (y 1).val / 256 = m
  · refine ⟨_, List.mem_cons_self, ?_⟩
    have hy1 : (y 1).val < 2048 := (y 1).isLt
    refine (Rect.mem_set_unit (inb := inb)).2 fun a => ?_
    match a with
    | ⟨0, _⟩ => show o0 ≤ (y 0).val ∧ (y 0).val < o0 + 256; omega
    | ⟨1, _⟩ => show o1 ≤ (y 1).val ∧ (y 1).val < o1 + 256; omega
  · obtain ⟨p, hp, hs⟩ := h hy
    exact ⟨p, List.mem_cons_of_mem _ hp, hs⟩

set_option maxHeartbeats 800000 in
/-- The first step. -/
theorem run_first (c : Dev nD) (i : grid0.Coords) (hi : (i 1).val = 0) (arg2 : Memref sig .tc .vmem S1024x1024 .bf16) (harg2 : arg2.IsWhole)
    (arg3 : Memref sig .tc .vmem S1024x2048 .bf16) (harg3 : arg3.IsWhole) (arg4 : Memref sig .tc .vmem S1024x256 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1024x2048 .f32) (harg7 : arg7.IsWhole) (arg8 : Memref sig .tc .vmem S8x1024x256 .f32) (harg8 : arg8.IsWhole)
    (x0 : Vec F S1024x1024 .bf16) (x1 : Vec F S1024x2048 .bf16) (x2 : Vec F S1024x256 .f32) (x3 x4 : Vec F S1x2048 .f32)
    (o : Vec F S1024x2048 .f32) (s : Vec F S8x1024x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare o
            ∗ owns (c : Thread nD τ) arg8 fullShare s
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4
              ∗ owns (c : Thread nD τ) arg7 fullShare (k0_pay2 x0 x1)
              ∗ owns (c : Thread nD τ) arg8 fullShare (put (i 1) x2 s)) -∗ K ⟨⟩))
          ⊢ wp frame (wpE (defs₀ (F := F)) Variants.none c none) E (cc0_ffn_out i arg2 harg2 arg3 harg3 arg4 harg4 arg5 harg5 arg6 harg6 arg7 harg7 arg8 harg8) K := by
  intro E K
  have hc1 : k0_cond1 i = 1#1 := (conds i).1.2 hi
  have hc2 : ¬ (k0_cond2 i = 1#1) := fun h => by have := (conds i).2.1.1 h; omega
  have hc3 : ¬ (k0_cond3 i = 1#1) := fun h => by have := (conds i).2.2.1 h; omega
  simp only [cc0_ffn_out_eq_skeleton]; unfold cc0_ffn_out_skel
  simp only [dif_pos hc1, dif_neg hc2, dif_neg hc3]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_open_run
    refine (View.read_writes_full _ _ _ _ _).trans ?_
    exact congrArg₂ k0_pay2 ((View.readAt_full _ _ _).trans (harg2.read_unread _)) ((View.readAt_full _ _ _).trans (harg3.read_unread _))
  iexists _; isplitr; swap; · iexact H6
  ipureintro
  refine (scratch_read i arg8 _ _ _).trans ?_
  rw [show View.readAt (Elt F) arg4.view (Rect.unit (s := S1024x256) ![0, 0] S1024x256.size inb_S1024x256_S1024x256_0_0).toLoadRect
    (harg4.unread x2) = x2 from (View.readAt_full _ _ _).trans (harg4.read_unread _), harg8.read_unread]

set_option maxHeartbeats 800000 in
/-- A step between the first and the last. -/
theorem run_mid (c : Dev nD) (i : grid0.Coords) (hi : 0 < (i 1).val ∧ (i 1).val < 7) (arg2 : Memref sig .tc .vmem S1024x1024 .bf16) (harg2 : arg2.IsWhole)
    (arg3 : Memref sig .tc .vmem S1024x2048 .bf16) (harg3 : arg3.IsWhole) (arg4 : Memref sig .tc .vmem S1024x256 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1024x2048 .f32) (harg7 : arg7.IsWhole) (arg8 : Memref sig .tc .vmem S8x1024x256 .f32) (harg8 : arg8.IsWhole)
    (x0 : Vec F S1024x1024 .bf16) (x1 : Vec F S1024x2048 .bf16) (x2 : Vec F S1024x256 .f32) (x3 x4 : Vec F S1x2048 .f32)
    (o : Vec F S1024x2048 .f32) (s : Vec F S8x1024x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare o
            ∗ owns (c : Thread nD τ) arg8 fullShare s
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4
              ∗ owns (c : Thread nD τ) arg7 fullShare (k0_pay3 o x0 x1)
              ∗ owns (c : Thread nD τ) arg8 fullShare (put (i 1) x2 s)) -∗ K ⟨⟩))
          ⊢ wp frame (wpE (defs₀ (F := F)) Variants.none c none) E (cc0_ffn_out i arg2 harg2 arg3 harg3 arg4 harg4 arg5 harg5 arg6 harg6 arg7 harg7 arg8 harg8) K := by
  intro E K
  have hc1 : ¬ (k0_cond1 i = 1#1) := fun h => by have := (conds i).1.1 h; omega
  have hc2 : k0_cond2 i = 1#1 := (conds i).2.1.2 hi
  have hc3 : ¬ (k0_cond3 i = 1#1) := fun h => by have := (conds i).2.2.1 h; omega
  simp only [cc0_ffn_out_eq_skeleton]; unfold cc0_ffn_out_skel
  simp only [dif_neg hc1, dif_pos hc2, dif_neg hc3]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_open_run
    refine (View.read_writes_full _ _ _ _ _).trans ?_
    rw [View.readAt_full, View.readAt_full, View.readAt_full, harg2.read_unread, harg3.read_unread, harg7.read_unread]
  iexists _; isplitr; swap; · iexact H6
  ipureintro
  refine (scratch_read i arg8 _ _ _).trans ?_
  rw [show View.readAt (Elt F) arg4.view (Rect.unit (s := S1024x256) ![0, 0] S1024x256.size inb_S1024x256_S1024x256_0_0).toLoadRect
    (harg4.unread x2) = x2 from (View.readAt_full _ _ _).trans (harg4.read_unread _), harg8.read_unread]

set_option maxHeartbeats 8000000 in
/-- The last step. -/
theorem run_last (c : Dev nD) (i : grid0.Coords) (hi : (i 1).val = 7) (arg2 : Memref sig .tc .vmem S1024x1024 .bf16) (harg2 : arg2.IsWhole)
    (arg3 : Memref sig .tc .vmem S1024x2048 .bf16) (harg3 : arg3.IsWhole) (arg4 : Memref sig .tc .vmem S1024x256 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1024x2048 .f32) (harg7 : arg7.IsWhole) (arg8 : Memref sig .tc .vmem S8x1024x256 .f32) (harg8 : arg8.IsWhole)
    (x0 : Vec F S1024x1024 .bf16) (x1 : Vec F S1024x2048 .bf16) (x2 : Vec F S1024x256 .f32) (x3 x4 : Vec F S1x2048 .f32)
    (o : Vec F S1024x2048 .f32) (s : Vec F S8x1024x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare o
            ∗ owns (c : Thread nD τ) arg8 fullShare s
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4
              ∗ owns (c : Thread nD τ) arg7 fullShare (lastOut x0 x1 o (put (i 1) x2 s) x3)
              ∗ owns (c : Thread nD τ) arg8 fullShare (put (i 1) x2 s)) -∗ K ⟨⟩))
          ⊢ wp frame (wpE (defs₀ (F := F)) Variants.none c none) E (cc0_ffn_out i arg2 harg2 arg3 harg3 arg4 harg4 arg5 harg5 arg6 harg6 arg7 harg7 arg8 harg8) K := by
  intro E K
  have hc1 : ¬ (k0_cond1 i = 1#1) := fun h => by have := (conds i).1.1 h; omega
  have hc2 : ¬ (k0_cond2 i = 1#1) := fun h => by have := (conds i).2.1.1 h; omega
  have hc3 : k0_cond3 i = 1#1 := (conds i).2.2.2 hi
  simp only [cc0_ffn_out_eq_skeleton]; unfold cc0_ffn_out_skel
  simp only [dif_neg hc1, dif_neg hc2, dif_pos hc3]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    funext y
    have hX : ∀ inb, arg8.view.read (Elt F) (arg8.view.writes (Elt F) (harg8.unread s)
        [⟨Rect.unit (s := S8x1024x256) (k0_off1 i) S1x1024x256.size inb, k0_pay1 (View.readAt (Elt F) arg4.view
          (Rect.unit (s := S1024x256) ![0, 0] S1024x256.size inb_S1024x256_S1024x256_0_0).toLoadRect (harg4.unread x2))⟩]) = put (i 1) x2 s := by
      intro inb
      rw [scratch_read, show View.readAt (Elt F) arg4.view (Rect.unit (s := S1024x256) ![0, 0] S1024x256.size inb_S1024x256_S1024x256_0_0).toLoadRect
        (harg4.unread x2) = x2 from (View.readAt_full _ _ _).trans (harg4.read_unread _), harg8.read_unread]
    sl_open_run
    simp only [k0_pay43]
    refine View.read_writes_apply_of_pieces _ _ (lastOut x0 x1 o (put (i 1) x2 s) x3) _ ?_ y ?_
    · iterate 32
        (refine List.forall_mem_cons.2 ⟨fun x => ?_, ?_⟩
         · refine piece x0 x1 o (put (i 1) x2 s) x3 _ _ ?_ ?_ ?_ ?_ _ _ _ _ _ ?_ ?_ ?_ ?_ ?_ ?_ _ _ _ _ _ x
           · decide
           · decide
           · decide
           · decide
           · refine rows_read arg2 harg2 x0 _ ?_ ?_ _ <;> decide
           · exact (View.readAt_full _ _ _).trans (harg3.read_unread _)
           · refine rows_read arg7 harg7 o _ ?_ ?_ _ <;> decide
           · refine slab_read arg8 _ _ (hX _) _ _ _ ?_ ?_ ?_ _ <;> decide
           · refine gain_read arg5 harg5 x3 _ ?_ _; decide
           · decide)
      exact List.forall_mem_nil _
    · have hb : (y 0).val / 256 * 8 + (y 1).val / 256 < 32 := by
        have h0 : (y 0).val < 1024 := (y 0).isLt
        have h1 : (y 1).val < 2048 := (y 1).isLt
        omega
      iterate 32 refine cover_cons _ _ _ rfl rfl rfl (by decide) _ _ _ y fun _ => ?_
      exfalso
      clear hX
      generalize (y 0).val / 256 * 8 + (y 1).val / 256 = n at *
      interval_cases n <;> contradiction
  iexists _; isplitr; swap; · iexact H6
  ipureintro
  refine (scratch_read i arg8 _ _ _).trans ?_
  rw [show View.readAt (Elt F) arg4.view (Rect.unit (s := S1024x256) ![0, 0] S1024x256.size inb_S1024x256_S1024x256_0_0).toLoadRect
    (harg4.unread x2) = x2 from (View.readAt_full _ _ _).trans (harg4.read_unread _), harg8.read_unread]

end Cert.FfnOut

end
-- ==== Proof.OutSame.lean ====
/- The feed-forward part's second call, first batch: the program as compiled is its idealization, word for word, so it has the
   idealization's frame. -/
module

public import proofs.«01_k».proof.Proof.OutFlow
public import proofs.«01_k».proof.Proof.Gen.Kernel5.Frame

@[expose] public section

set_option maxRecDepth 65536

noncomputable section

namespace Cert.FfnOut.Same

open Cert.Kernel5 Cert.Kernel5.Gen Cert.Kernel5Ideal.Gen
open Idealize.ShloMosaic Idealize.ShloMosaic.TcCoe Idealize.SL.Sem

variable {F : FTy → Type} [FloatOps F]

/-- The two programs call one body … -/
theorem body_eq : Cert.Kernel5.cc0_ffn_out (F := F) = Cert.Kernel5Ideal.cc0_ffn_out := rfl

/-- … from one table … -/
theorem defs₀_eq : Cert.Kernel5.defs₀ (F := F) = Cert.Kernel5Ideal.defs₀ :=
  congrArg Defs.onTc (funext fun ℓ => match ℓ with
    | ⟨0, _⟩ => funext fun ⟨t, s⟩ => rfl)

/-- … under one pipeline. -/
theorem defs_eq : Cert.Kernel5.defs (F := F) = Cert.Kernel5Ideal.defs :=
  congrArg (Pipeline.defs (Cert.Kernel5Ideal.pcfgs (F := F))) defs₀_eq

/-- The frame: the arguments end unchanged and all semaphores are at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact FfnOut.frame (F := F) m ρ

end Cert.FfnOut.Same

end
-- ==== Proof.OutValue.lean ====
/- The feed-forward part's second product in extended reals: what the three kinds of step store, element by element, and the
   normalised row that the last step and the reference both end with. -/
module

public import proofs.«01_k».proof.Proof.OutRow
public import proofs.«01_k».proof.Proof.Gen.Reference5Ideal.Read
public import Idealize.ShloMosaic.Lib.Pipeline.ValueKit

@[expose] public section

set_option maxRecDepth 16384

noncomputable section

namespace Cert.FfnOut

open Cert.Kernel5Ideal Cert.Kernel5Ideal.Gen
open Idealize.ShloMosaic Idealize.ShloMosaic.TcCoe

/-- A residual element plus a row's element over the row's root mean square, times a gain. -/
def normed (Y : Fin 2048 → EReal) (j : Fin 2048) (x g : EReal) : EReal :=
  x + (Y j * Ideal.rsqrt ((∑ q : Fin 2048, Y q * Y q) * Ideal.ofBits .f32 0x3A000000#32 + Ideal.ofBits .f32 0x358637BD#32)) * g

/-- Dividing by 2048 is multiplying by its reciprocal. -/
theorem div_2048 (x : EReal) : Ideal.div x (Ideal.ofBits .f32 0x45000000#32) = x * Ideal.ofBits .f32 0x3A000000#32 := by
  have h1 : Ideal.ofBits .f32 0x45000000#32 = ((2048 : ℝ) : EReal) := by
    simp [Ideal.ofBits, Ideal.ieee, -EReal.coe_mul]; norm_num
  have h2 : Ideal.ofBits .f32 0x3A000000#32 = ((2048⁻¹ : ℝ) : EReal) := by
    simp [Ideal.ofBits, Ideal.ieee, -EReal.coe_mul]; norm_num
  rw [h1, h2, EReal.coe_inv]
  unfold Ideal.div
  rw [if_neg (by exact_mod_cast (by norm_num : (2048 : ℝ) ≠ 0))]

/-- The first step's product. -/
theorem first_apply (x : Vec Ideal S1024x1024 .bf16) (w : Vec Ideal S1024x2048 .bf16) (p : Fin 1024) (q : Fin 2048) :
    (k0_pay2 (F := Ideal) x w (ix2 p q) : EReal) = ∑ k : Fin 1024, (x (ix2 p k) : EReal) * (w (ix2 k q) : EReal) := by
  unfold k0_pay2
  pointwise []

/-- A middle step's running sum. -/
theorem mid_apply (o : Vec Ideal S1024x2048 .f32) (x : Vec Ideal S1024x1024 .bf16) (w : Vec Ideal S1024x2048 .bf16) (p : Fin 1024) (q : Fin 2048) :
    (k0_pay3 (F := Ideal) o x w (ix2 p q) : EReal) = o (ix2 p q) + ∑ k : Fin 1024, (x (ix2 p k) : EReal) * (w (ix2 k q) : EReal) := by
  unfold k0_pay3
  pointwise []

/-- The last step's sum, of a group of rows. -/
theorem sum_apply (x : Vec Ideal S256x1024 .bf16) (w : Vec Ideal S1024x2048 .bf16) (o : Vec Ideal S256x2048 .f32) (p : Fin 256) (q : Fin 2048) :
    (k0_pay4 (F := Ideal) x w o (ix2 p q) : EReal) = o (ix2 p q) + ∑ k : Fin 1024, (x (ix2 p k) : EReal) * (w (ix2 k q) : EReal) := by
  unfold k0_pay4
  pointwise []

/-- The reciprocal of a row's root mean square. -/
theorem root_apply (x : Vec Ideal S256x1024 .bf16) (w : Vec Ideal S1024x2048 .bf16) (o : Vec Ideal S256x2048 .f32) (p : Fin 256) :
    (k0_pay5 (F := Ideal) x w o (ix2 p 0) : EReal)
      = Ideal.rsqrt ((∑ q : Fin 2048, (k0_pay4 (F := Ideal) x w o (ix2 p q) : EReal) * k0_pay4 (F := Ideal) x w o (ix2 p q))
          * Ideal.ofBits .f32 0x3A000000#32 + Ideal.ofBits .f32 0x358637BD#32) := by
  unfold k0_pay5
  generalize k0_pay4 (F := Ideal) x w o = y
  pointwise []

/-- The row whose norm the last step takes. -/
def lastRow (x0 : Vec Ideal S1024x1024 .bf16) (x1 : Vec Ideal S1024x2048 .bf16) (o : Vec Ideal S1024x2048 .f32) (p : Fin 1024) (q : Fin 2048) : EReal :=
  (o (ix2 p q) : EReal) + ∑ k : Fin 1024, (x0 (ix2 p k) : EReal) * (x1 (ix2 k q) : EReal)

/-- The last step's block is the normalised row. -/
theorem last_apply (x0 : Vec Ideal S1024x1024 .bf16) (x1 : Vec Ideal S1024x2048 .bf16) (o : Vec Ideal S1024x2048 .f32) (X : Vec Ideal S8x1024x256 .f32)
    (g : Vec Ideal S1x2048 .f32) (p : Fin 1024) (j : Fin 2048) :
    (lastOut (F := Ideal) x0 x1 o X g (ix2 p j) : EReal)
      = normed (lastRow x0 x1 o p) j (X (ix3 ⟨j.val / 256, by omega⟩ p ⟨j.val % 256, by omega⟩)) (g (ix2 0 j)) := by
  have hs : ∀ q : Fin 2048, (k0_pay4 (F := Ideal) (rows x0 ⟨p.val / 256, by omega⟩) x1 (rows o ⟨p.val / 256, by omega⟩)
      (ix2 ⟨p.val % 256, by omega⟩ q) : EReal) = lastRow x0 x1 o p q := by
    intro q
    rw [sum_apply]
    have e : (⟨p.val / 256 * 256 + p.val % 256, by omega⟩ : Fin 1024) = p := Fin.ext (by show p.val / 256 * 256 + p.val % 256 = p.val; omega)
    show (o (ix2 ⟨p.val / 256 * 256 + p.val % 256, _⟩ q) : EReal)
      + ∑ k : Fin 1024, (x0 (ix2 ⟨p.val / 256 * 256 + p.val % 256, _⟩ k) : EReal) * (x1 (ix2 k q) : EReal) = _
    simp only [e]
    rfl
  show (X (ix3 ⟨j.val / 256, _⟩ p ⟨j.val % 256, _⟩) : EReal)
    + (k0_pay4 (F := Ideal) (rows x0 ⟨p.val / 256, _⟩) x1 (rows o ⟨p.val / 256, _⟩) (ix2 ⟨p.val % 256, _⟩ j)
      * k0_pay5 (F := Ideal) (rows x0 ⟨p.val / 256, _⟩) x1 (rows o ⟨p.val / 256, _⟩) (ix2 ⟨p.val % 256, _⟩ 0)) * g (ix2 0 j) = _
  rw [root_apply]
  simp only [hs]
  rfl

/-- The whole product at an element. -/
def product (H : FVec Ideal S49152x8192 .f32) (W : FVec Ideal S8192x2048 .f32) (r : Fin 49152) (j : Fin 2048) : EReal :=
  ∑ k : Fin 8192, (H (ix2 r k) : EReal) * (W (ix2 k j) : EReal)

/-- A term of the product by its number. -/
def term (H : FVec Ideal S49152x8192 .f32) (W : FVec Ideal S8192x2048 .f32) (r : Fin 49152) (j : Fin 2048) (k : ℕ) : EReal :=
  if h : k < 8192 then (H (ix2 r ⟨k, h⟩) : EReal) * (W (ix2 ⟨k, h⟩ j) : EReal) else 0

/-- The product of one step's blocks continues the sum of the steps before. -/
theorem sum_step (H : FVec Ideal S49152x8192 .f32) (W : FVec Ideal S8192x2048 .f32) (r : Fin 49152) (j : Fin 2048) (s : ℕ) (hs : s < 8) :
    ∑ k ∈ Finset.range (s * 1024), term H W r j k
        + ∑ k : Fin 1024, (H (ix2 r ⟨s * 1024 + k.val, by omega⟩) : EReal) * (W (ix2 ⟨s * 1024 + k.val, by omega⟩ j) : EReal)
      = ∑ k ∈ Finset.range ((s + 1) * 1024), term H W r j k := by
  rw [Nat.succ_mul, Finset.sum_range_add, Finset.sum_range fun k => term H W r j (s * 1024 + k)]
  refine congrArg (_ + ·) (Finset.sum_congr rfl fun k _ => ?_)
  unfold term
  rw [dif_pos (by omega)]

/-- The first step's product is the sum's beginning. -/
theorem sum_first (H : FVec Ideal S49152x8192 .f32) (W : FVec Ideal S8192x2048 .f32) (r : Fin 49152) (j : Fin 2048) :
    ∑ k : Fin 1024, (H (ix2 r ⟨0 * 1024 + k.val, by omega⟩) : EReal) * (W (ix2 ⟨0 * 1024 + k.val, by omega⟩ j) : EReal)
      = ∑ k ∈ Finset.range ((0 + 1) * 1024), term H W r j k :=
  ((zero_add _).symm.trans (congrArg (· + _) (Finset.sum_range_zero _).symm)).trans (sum_step H W r j 0 (by omega))

/-- All eight steps make the product. -/
theorem sum_all (H : FVec Ideal S49152x8192 .f32) (W : FVec Ideal S8192x2048 .f32) (r : Fin 49152) (j : Fin 2048) :
    ∑ k ∈ Finset.range (8 * 1024), term H W r j k = product H W r j := by
  rw [show 8 * 1024 = 8192 from rfl, Finset.sum_range]
  refine Finset.sum_congr rfl fun k _ => ?_
  unfold term
  rw [dif_pos k.isLt]

open Cert.Reference5Ideal.Read in
/-- The reference's product. -/
theorem reference_product (H : FVec Ideal S49152x8192 .f32) (W : FVec Ideal S8192x2048 .f32) (r : Fin 49152) (j : Fin 2048) :
    (val_main_v0 (F := Ideal) H W (ix2 r j) : EReal) = product H W r j := by
  rw [val_main_v0_apply]
  refine Finset.sum_congr rfl fun k _ => ?_
  have hl : lidx_main_v0 (ix2 r j) k = ix2 r k := funext fun a => by
    match a with
    | ⟨0, _⟩ => rfl
    | ⟨1, _⟩ => rfl
  have hr : ridx_main_v0 (ix2 r j) k = ix2 k j := funext fun a => by
    match a with
    | ⟨0, _⟩ => rfl
    | ⟨1, _⟩ => rfl
  rw [hl, hr]

open Cert.Reference5Ideal.Read in
/-- The reference, before it takes a batch's rows, is the normalised row. -/
theorem reference_apply (H : FVec Ideal S49152x8192 .f32) (W : FVec Ideal S8192x2048 .f32) (X : FVec Ideal S49152x2048 .f32) (g : FVec Ideal S2048 .f32)
    (r : Fin 49152) (j : Fin 2048) :
    (val_main_v14 (F := Ideal) H W X g (ix2 r j) : EReal) = normed (product H W r) j (X (ix2 r j)) (g (ix1 j)) := by
  rw [val_main_v14_apply, val_main_v13_apply, val_main_v12_apply, val_main_v11_apply, val_main_v10_apply, val_main_v9_apply, val_main_v8_apply,
    val_main_v7_apply, val_main_v6_apply, val_main_cst_1_apply, val_main_v5_apply, val_main_v4_apply, val_main_cst_0_apply, val_main_v3_apply,
    val_main_v2_apply, val_main_cst_apply]
  have hq : ∀ q : Fin 2048, (val_main_v1 (F := Ideal) H W (idx_main_v2 (idx_main_v3 (idx_main_v9 (ix2 r j))) q) : EReal)
      = product H W r q * product H W r q := by
    intro q
    have e : idx_main_v2 (idx_main_v3 (idx_main_v9 (ix2 r j))) q = ix2 r q := funext fun a => by
      match a with
      | ⟨0, _⟩ => rfl
      | ⟨1, _⟩ => rfl
    rw [e, val_main_v1_apply, reference_product]
    rfl
  have hg : idx_main_v11 (idx_main_v12 (ix2 r j)) = ix1 j := funext fun a => by
    match a with
    | ⟨0, _⟩ => rfl
  simp only [hq, hg, reference_product]
  show (X (ix2 r j) : EReal) + (product H W r j * Ideal.rsqrt (Ideal.div (Ideal.ofBits .f32 0#32 + ∑ q : Fin 2048, product H W r q * product H W r q)
    (Ideal.ofBits .f32 0x45000000#32) + Ideal.ofBits .f32 0x358637BD#32)) * g (ix1 j) = _
  rw [Ideal.ofBits_zero_f32, zero_add, div_2048]
  rfl

end Cert.FfnOut

end
-- ==== Proof.OutArray.lean ====
/- The feed-forward part's second call, first batch: after its last point the result array is the reference's. -/
module

public import proofs.«01_k».proof.Proof.OutFlow
public import proofs.«01_k».proof.Proof.OutValue
public import Idealize.ShloMosaic.Lib.StableHlo.Run

@[expose] public section

set_option maxRecDepth 16384

noncomputable section

namespace Cert.FfnOut

open Cert.Kernel5Ideal Cert.Kernel5Ideal.Gen
open Idealize.ShloMosaic Idealize.ShloMosaic.TcCoe

/-- Point `t` is step `t % 8` of row block `t / 8`. -/
theorem index_0 : ∀ t : Fin cfg0.N, win0_0.index t = ![t.val / 8, t.val % 8] := (by decide +kernel : ∀ t : Fin grid0.N, _)
theorem index_1 : ∀ t : Fin cfg0.N, win0_1.index t = ![t.val % 8, 0] := (by decide +kernel : ∀ t : Fin grid0.N, _)
theorem index_2 : ∀ t : Fin cfg0.N, win0_2.index t = ![t.val / 8, t.val % 8] := (by decide +kernel : ∀ t : Fin grid0.N, _)
theorem index_3 : ∀ t : Fin cfg0.N, win0_3.index t = ![0, 0] := (by decide +kernel : ∀ t : Fin grid0.N, _)
theorem index_5 : ∀ t : Fin cfg0.N, win0_5.index t = ![t.val / 8, 0] := (by decide +kernel : ∀ t : Fin grid0.N, _)

variable (m : (ℓ : Loc nD τ sig) → Buf (Elt Ideal) ℓ) (c : Dev nD)

/-- The hidden activations, the weights, the residual and the gain as launched. -/
abbrev Hs : FVec Ideal S49152x8192 .f32 := m ((c.tc : Thread nD τ).loc main_arg0)
abbrev Ws : FVec Ideal S8192x2048 .f32 := m ((c.tc : Thread nD τ).loc main_arg1)
abbrev Xs : FVec Ideal S49152x2048 .f32 := m ((c.tc : Thread nD τ).loc main_arg2)
abbrev Gs : FVec Ideal S2048 .f32 := m ((c.tc : Thread nD τ).loc main_arg3)

/-- The host casts the activations … -/
theorem V_h : V m c main_v0 = truncf (F := Ideal) .bf16 (Hs m c) bitsLt_bf16_f32 := by
  show StableHlo.after hostOps0 (fun b => m (c, b)) (Proc.devRef .tc main_v0) = _
  unfold hostOps0; after_results <;> rfl

/-- … and the weights … -/
theorem V_w : V m c main_v1 = truncf (F := Ideal) .bf16 (Ws m c) bitsLt_bf16_f32 := by
  show StableHlo.after hostOps0 (fun b => m (c, b)) (Proc.devRef .tc main_v1) = _
  unfold hostOps0; after_results <;> rfl

/-- … and lays the gain out as a row. -/
theorem V_g : V m c main_v2 = shapeCast S1x2048 (Gs m c) shapeCasts_S2048_S1x2048 := by
  show StableHlo.after hostOps0 (fun b => m (c, b)) (Proc.devRef .tc main_v2) = _
  unfold hostOps0; after_results <;> rfl

/-- A point's rows and inner columns. -/
theorem block_h (t : Fin cfg0.N) (p : Fin 1024) (k : Fin 1024) :
    (iblk m c 0 t (ix2 p k) : EReal) = Hs m c (ix2 ⟨t.val / 8 * 1024 + p.val, by have : t.val < 256 := t.isLt; omega⟩ ⟨t.val % 8 * 1024 + k.val, by omega⟩) := by
  unfold iblk
  rw [View.read_apply]
  show (V m c main_v0 (((cfg0.win 0).blk t).view.emb _) : EReal) = _
  rw [V_h]
  refine congrArg (Hs m c) (funext fun a => ?_)
  match a with
  | ⟨0, _⟩ => exact Fin.ext (by blk_simp [index_0])
  | ⟨1, _⟩ => exact Fin.ext (by blk_simp [index_0])

/-- A point's inner rows of the weights. -/
theorem block_w (t : Fin cfg0.N) (k : Fin 1024) (j : Fin 2048) :
    (iblk m c 1 t (ix2 k j) : EReal) = Ws m c (ix2 ⟨t.val % 8 * 1024 + k.val, by omega⟩ j) := by
  unfold iblk
  rw [View.read_apply]
  show (V m c main_v1 (((cfg0.win 1).blk t).view.emb _) : EReal) = _
  rw [V_w]
  refine congrArg (Ws m c) (funext fun a => ?_)
  match a with
  | ⟨0, _⟩ => exact Fin.ext (by blk_simp [index_1])
  | ⟨1, _⟩ => exact Fin.ext (by blk_simp [index_1])

/-- A point's columns of the residual. -/
theorem block_x (t : Fin cfg0.N) (p : Fin 1024) (q : Fin 256) :
    (iblk m c 2 t (ix2 p q) : EReal) = Xs m c (ix2 ⟨t.val / 8 * 1024 + p.val, by have : t.val < 256 := t.isLt; omega⟩ ⟨t.val % 8 * 256 + q.val, by omega⟩) := by
  unfold iblk
  rw [View.read_apply]
  show (V m c main_arg2 (((cfg0.win 2).blk t).view.emb _) : EReal) = _
  rw [V_main_arg2]
  refine congrArg (Xs m c) (funext fun a => ?_)
  match a with
  | ⟨0, _⟩ => exact Fin.ext (by blk_simp [index_2])
  | ⟨1, _⟩ => exact Fin.ext (by blk_simp [index_2])

/-- The gain. -/
theorem block_g (t : Fin cfg0.N) (j : Fin 2048) : (iblk m c 3 t (ix2 0 j) : EReal) = Gs m c (ix1 j) := by
  unfold iblk
  rw [View.read_apply]
  show (V m c main_v2 (((cfg0.win 3).blk t).view.emb _) : EReal) = _
  rw [V_g]
  have e : ((cfg0.win 3).blk t).view.emb (ix2 0 j) = (ix2 0 j : S1x2048.Idx) := funext fun a => by
    match a with
    | ⟨0, _⟩ => exact Fin.ext (by blk_simp [index_3])
    | ⟨1, _⟩ => exact Fin.ext (by blk_simp [index_3])
  rw [e]
  exact ValueIdx.shapeCast_a_1a_apply (Gs m c) shapeCasts_S2048_S1x2048 0 j

/-- Before a row block's last step the result's buffer holds the products of the steps done. -/
theorem partial_sum (t : Fin cfg0.N) (h7 : t.val % 8 < 7) (p : Fin 1024) (q : Fin 2048) :
    (outN m c t.val t.isLt (ix2 p q) : EReal)
      = ∑ k ∈ Finset.range ((t.val % 8 + 1) * 1024), term (Hs m c) (Ws m c) ⟨t.val / 8 * 1024 + p.val, by have : t.val < 256 := t.isLt; omega⟩ q k := by
  obtain ⟨n, hn⟩ := t
  induction n with
  | zero =>
    rw [outN_first m c ⟨0, hn⟩ rfl, first_apply]
    simp only [block_h, block_w]
    exact sum_first (Hs m c) (Ws m c) _ q
  | succ n ih =>
    by_cases h0 : (n + 1) % 8 = 0
    · rw [outN_first m c ⟨n + 1, hn⟩ h0, first_apply]
      simp only [block_h, block_w]
      simp only [h0]
      exact sum_first (Hs m c) (Ws m c) _ q
    · have h7' : (n + 1) % 8 < 7 := h7
      rw [outN_mid m c ⟨n + 1, hn⟩ h0 (by show (n + 1) % 8 ≠ 7; omega), mid_apply]
      have := ih (Nat.lt_of_succ_lt hn) (by show n % 8 < 7; omega)
      show (outN m c n _ (ix2 p q) : EReal) + _ = _
      refine (congrArg (· + _) this).trans ?_
      simp only [block_h, block_w]
      have e1 : n % 8 + 1 = (n + 1) % 8 := by omega
      have e2 : n / 8 = (n + 1) / 8 := by omega
      simp only [e1, e2]
      exact sum_step (Hs m c) (Ws m c) _ q ((n + 1) % 8) (by omega)

/-- At a row block's last step the row is the whole product. -/
theorem last_row (t : Fin cfg0.N) (h : t.val % 8 = 7) (p : Fin 1024) (q : Fin 2048) :
    lastRow (iblk m c 0 t) (iblk m c 1 t) (outN m c (t.val - 1) (Nat.lt_of_le_of_lt (Nat.sub_le _ _) t.isLt)) p q
      = product (Hs m c) (Ws m c) ⟨t.val / 8 * 1024 + p.val, by have : t.val < 256 := t.isLt; omega⟩ q := by
  unfold lastRow
  have ht : t.val < 256 := t.isLt
  refine (congrArg (· + _) (partial_sum m c ⟨t.val - 1, Nat.lt_of_le_of_lt (Nat.sub_le _ _) t.isLt⟩ (by show (t.val - 1) % 8 < 7; omega) p q)).trans ?_
  simp only [block_h, block_w]
  have e1 : (t.val - 1) % 8 + 1 = 7 := by omega
  have e2 : (t.val - 1) / 8 = t.val / 8 := by omega
  simp only [e1, e2, h]
  exact (sum_step (Hs m c) (Ws m c) _ q 7 (by omega)).trans (sum_all _ _ _ _)

/-- The residual's buffer at the last step, at an element. -/
theorem slabs_apply (t : Fin cfg0.N) (p : Fin 1024) (j : Fin 2048) :
    (slabs m c (t.val / 8) (ix3 ⟨j.val / 256, by omega⟩ p ⟨j.val % 256, by omega⟩) : EReal)
      = Xs m c (ix2 ⟨t.val / 8 * 1024 + p.val, by have : t.val < 256 := t.isLt; omega⟩ j) := by
  have ht : t.val < 256 := t.isLt
  unfold slabs
  refine (block_x m c _ _ _).trans (congrArg (Xs m c) (funext fun a => ?_))
  match a with
  | ⟨0, _⟩ => exact Fin.ext (by show (t.val / 8 * 8 + j.val / 256) % 256 / 8 * 1024 + p.val = t.val / 8 * 1024 + p.val; omega)
  | ⟨1, _⟩ => exact Fin.ext (by show (t.val / 8 * 8 + j.val / 256) % 256 % 8 * 256 + j.val % 256 = j.val; omega)

/-- A row block's result is the reference's rows. -/
theorem out_apply (t : Fin cfg0.N) (h : t.val % 8 = 7) (p : Fin 1024) (j : Fin 2048) :
    (outN m c t.val t.isLt (ix2 p j) : EReal)
      = Reference5Ideal.Read.val_main_v14 (F := Ideal) (Hs m c) (Ws m c) (Xs m c) (Gs m c) (ix2 ⟨t.val / 8 * 1024 + p.val, by have : t.val < 256 := t.isLt; omega⟩ j) := by
  rw [outN_last m c t h, last_apply, slabs_apply, block_g, reference_apply]
  exact congrArg (normed · j _ _) (funext fun q => last_row m c t h p q)

/-- THE ARRAY: after the last point the result is the reference's. -/
theorem array_eq : (dats m 0 c).arrAt 5 cfg0.N = Reference5Ideal.Read.val_main_v15 (F := Ideal) (Hs m c) (Ws m c) (Xs m c) (Gs m c) := by
  refine (dats m 0 c).arrAt_eq_of_covers 5 _ (by decide +kernel) fun t hf y => ?_
  have h7 : t.val % 8 = 7 := (flush0_5 t).1 hf
  blk_simp
  rw [after_5]
  have ht : t.val < 256 := t.isLt
  have h0 : (y 0).val < 1024 := (y 0).isLt
  have h1 : (y 1).val < 2048 := (y 1).isLt
  have hy : y = ix2 ⟨(y 0).val, h0⟩ ⟨(y 1).val, h1⟩ := funext fun a => by
    match a with
    | ⟨0, _⟩ => rfl
    | ⟨1, _⟩ => rfl
  refine Eq.trans (b := Reference5Ideal.Read.val_main_v15 (F := Ideal) (Hs m c) (Ws m c) (Xs m c) (Gs m c)
    (ix2 ⟨t.val / 8 * 1024 + (y 0).val, by omega⟩ ⟨(y 1).val, h1⟩)) ?_ ?_
  · refine (congrArg (outN m c t.val t.isLt) hy).trans ((out_apply m c t h7 _ _).trans ?_)
    rw [Reference5Ideal.Read.val_main_v15_apply]
    refine congrArg (Reference5Ideal.Read.val_main_v14 (F := Ideal) (Hs m c) (Ws m c) (Xs m c) (Gs m c)) (funext fun a => ?_)
    match a with
    | ⟨0, _⟩ => rfl
    | ⟨1, _⟩ => rfl
  · refine congrArg (Reference5Ideal.Read.val_main_v15 (F := Ideal) (Hs m c) (Ws m c) (Xs m c) (Gs m c)) (funext fun a => ?_)
    match a with
    | ⟨0, _⟩ => exact Fin.ext (by blk_simp [index_5]; rfl)
    | ⟨1, _⟩ => exact Fin.ext (by blk_simp [index_5]; rfl)

end Cert.FfnOut

end
-- ==== Proof.OutRun6.lean ====
/- The feed-forward part's second call, second batch: its body is the first batch's over another grid, step by step. -/
module

public import proofs.«01_k».proof.Proof.OutRun
public import proofs.«01_k».proof.Proof.Gen.Kernel6Ideal.Frame
public import proofs.«01_k».proof.Proof.Gen.Kernel6Ideal.Skeleton
public import Idealize.ShloMosaic.Lib.Tactic
public import Idealize.ShloMosaic.Lib.Tactic.Stretches
public import Idealize.ShloMosaic.Lib.Writes
public import Idealize.ShloMosaic.Lib.WholeRead
public import Idealize.ShloMosaic.Lib.VecWindow

@[expose] public section

set_option maxRecDepth 16384

noncomputable section

namespace Cert.FfnOut6

open Cert.Kernel6Ideal Cert.Kernel6Ideal.Gen
open Cert.FfnOut (rows lastOut piece put rows_read gain_read slab_read cover_cons)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- When the three branches are taken. -/
theorem conds (i : grid0.Coords) : (k0_cond1 i = 1#1 ↔ (i 1).val = 0) ∧ (k0_cond2 i = 1#1 ↔ 0 < (i 1).val ∧ (i 1).val < 7)
    ∧ (k0_cond3 i = 1#1 ↔ (i 1).val = 7) := by
  have h : (i 1).val < 8 := (i 1).isLt
  unfold k0_cond1 k0_cond2 k0_cond3
  generalize (i 1).val = n at *
  interval_cases n <;> decide

/-- The residual's buffer after the step's store. -/
theorem scratch_read (i : grid0.Coords) (arg8 : Memref sig .tc .vmem S8x1024x256 .f32) (x : Vec F S1024x256 .f32)
    (f : arg8.view.ty.Contents (Elt F)) (inb : ∀ a, k0_off1 i a + S1x1024x256.size a ≤ S8x1024x256.size a) :
    arg8.view.read (Elt F) (arg8.view.writes (Elt F) f [⟨Rect.unit (s := S8x1024x256) (k0_off1 i) S1x1024x256.size inb, k0_pay1 x⟩])
      = put (i 1) x (arg8.view.read (Elt F) f) := by
  funext y
  unfold put
  by_cases h : (y 0).val = (i 1).val
  · rw [if_pos h]
    refine (View.read_writes_cons_hit_of_coords _ _ _ _ _ (ix3 0 (y 1) (y 2)) y ?_).trans ?_
    · intro a
      match a with
      | ⟨0, _⟩ => show (y 0).val = k0_off1 i 0 + 1 * 0; rw [k0_off1_eq]; exact h
      | ⟨1, _⟩ => show (y 1).val = k0_off1 i 1 + 1 * (y 1).val; rw [k0_off1_eq]; exact (by omega : (y 1).val = 0 + 1 * (y 1).val)
      | ⟨2, _⟩ => show (y 2).val = k0_off1 i 2 + 1 * (y 2).val; rw [k0_off1_eq]; exact (by omega : (y 2).val = 0 + 1 * (y 2).val)
    · exact ValueIdx.shapeCast_ab_1ab_apply x _ 0 (y 1) (y 2)
  · rw [if_neg h]
    refine (View.read_writes_cons_miss_of_axis _ _ _ _ y 0 (i 1).val 1 ?_ rfl rfl ?_).trans rfl
    · show k0_off1 i 0 = _; rw [k0_off1_eq]; rfl
    · omega

/-- The last step's sum and its root's reciprocal are the first batch's. -/
theorem pay4_eq : k0_pay4 (F := F) = Kernel5Ideal.Gen.k0_pay4 := rfl
theorem pay5_eq : k0_pay5 (F := F) = Kernel5Ideal.Gen.k0_pay5 := rfl

set_option maxHeartbeats 800000 in
/-- The first step. -/
theorem run_first (c : Dev nD) (i : grid0.Coords) (hi : (i 1).val = 0) (arg2 : Memref sig .tc .vmem S1024x1024 .bf16) (harg2 : arg2.IsWhole)
    (arg3 : Memref sig .tc .vmem S1024x2048 .bf16) (harg3 : arg3.IsWhole) (arg4 : Memref sig .tc .vmem S1024x256 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1024x2048 .f32) (harg7 : arg7.IsWhole) (arg8 : Memref sig .tc .vmem S8x1024x256 .f32) (harg8 : arg8.IsWhole)
    (x0 : Vec F S1024x1024 .bf16) (x1 : Vec F S1024x2048 .bf16) (x2 : Vec F S1024x256 .f32) (x3 x4 : Vec F S1x2048 .f32)
    (o : Vec F S1024x2048 .f32) (s : Vec F S8x1024x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare o
            ∗ owns (c : Thread nD τ) arg8 fullShare s
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4
              ∗ owns (c : Thread nD τ) arg7 fullShare (Kernel5Ideal.Gen.k0_pay2 x0 x1)
              ∗ owns (c : Thread nD τ) arg8 fullShare (put (i 1) x2 s)) -∗ K ⟨⟩))
          ⊢ wp frame (wpE (defs₀ (F := F)) Variants.none c none) E (cc0_ffn_out i arg2 harg2 arg3 harg3 arg4 harg4 arg5 harg5 arg6 harg6 arg7 harg7 arg8 harg8) K := by
  intro E K
  have hc1 : k0_cond1 i = 1#1 := (conds i).1.2 hi
  have hc2 : ¬ (k0_cond2 i = 1#1) := fun h => by have := (conds i).2.1.1 h; omega
  have hc3 : ¬ (k0_cond3 i = 1#1) := fun h => by have := (conds i).2.2.1 h; omega
  simp only [cc0_ffn_out_eq_skeleton]; unfold cc0_ffn_out_skel
  simp only [dif_pos hc1, dif_neg hc2, dif_neg hc3]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_open_run
    refine (View.read_writes_full _ _ _ _ _).trans ?_
    exact congrArg₂ Kernel5Ideal.Gen.k0_pay2 ((View.readAt_full _ _ _).trans (harg2.read_unread _)) ((View.readAt_full _ _ _).trans (harg3.read_unread _))
  iexists _; isplitr; swap; · iexact H6
  ipureintro
  refine (scratch_read i arg8 _ _ _).trans ?_
  rw [show View.readAt (Elt F) arg4.view (Rect.unit (s := S1024x256) ![0, 0] S1024x256.size inb_S1024x256_S1024x256_0_0).toLoadRect
    (harg4.unread x2) = x2 from (View.readAt_full _ _ _).trans (harg4.read_unread _), harg8.read_unread]

set_option maxHeartbeats 800000 in
/-- A step between the first and the last. -/
theorem run_mid (c : Dev nD) (i : grid0.Coords) (hi : 0 < (i 1).val ∧ (i 1).val < 7) (arg2 : Memref sig .tc .vmem S1024x1024 .bf16) (harg2 : arg2.IsWhole)
    (arg3 : Memref sig .tc .vmem S1024x2048 .bf16) (harg3 : arg3.IsWhole) (arg4 : Memref sig .tc .vmem S1024x256 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1024x2048 .f32) (harg7 : arg7.IsWhole) (arg8 : Memref sig .tc .vmem S8x1024x256 .f32) (harg8 : arg8.IsWhole)
    (x0 : Vec F S1024x1024 .bf16) (x1 : Vec F S1024x2048 .bf16) (x2 : Vec F S1024x256 .f32) (x3 x4 : Vec F S1x2048 .f32)
    (o : Vec F S1024x2048 .f32) (s : Vec F S8x1024x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare o
            ∗ owns (c : Thread nD τ) arg8 fullShare s
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4
              ∗ owns (c : Thread nD τ) arg7 fullShare (Kernel5Ideal.Gen.k0_pay3 o x0 x1)
              ∗ owns (c : Thread nD τ) arg8 fullShare (put (i 1) x2 s)) -∗ K ⟨⟩))
          ⊢ wp frame (wpE (defs₀ (F := F)) Variants.none c none) E (cc0_ffn_out i arg2 harg2 arg3 harg3 arg4 harg4 arg5 harg5 arg6 harg6 arg7 harg7 arg8 harg8) K := by
  intro E K
  have hc1 : ¬ (k0_cond1 i = 1#1) := fun h => by have := (conds i).1.1 h; omega
  have hc2 : k0_cond2 i = 1#1 := (conds i).2.1.2 hi
  have hc3 : ¬ (k0_cond3 i = 1#1) := fun h => by have := (conds i).2.2.1 h; omega
  simp only [cc0_ffn_out_eq_skeleton]; unfold cc0_ffn_out_skel
  simp only [dif_neg hc1, dif_pos hc2, dif_neg hc3]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    sl_open_run
    refine (View.read_writes_full _ _ _ _ _).trans ?_
    rw [View.readAt_full, View.readAt_full, View.readAt_full, harg2.read_unread, harg3.read_unread, harg7.read_unread]
    rfl
  iexists _; isplitr; swap; · iexact H6
  ipureintro
  refine (scratch_read i arg8 _ _ _).trans ?_
  rw [show View.readAt (Elt F) arg4.view (Rect.unit (s := S1024x256) ![0, 0] S1024x256.size inb_S1024x256_S1024x256_0_0).toLoadRect
    (harg4.unread x2) = x2 from (View.readAt_full _ _ _).trans (harg4.read_unread _), harg8.read_unread]

set_option maxHeartbeats 8000000 in
/-- The last step. -/
theorem run_last (c : Dev nD) (i : grid0.Coords) (hi : (i 1).val = 7) (arg2 : Memref sig .tc .vmem S1024x1024 .bf16) (harg2 : arg2.IsWhole)
    (arg3 : Memref sig .tc .vmem S1024x2048 .bf16) (harg3 : arg3.IsWhole) (arg4 : Memref sig .tc .vmem S1024x256 .f32) (harg4 : arg4.IsWhole)
    (arg5 : Memref sig .tc .vmem S1x2048 .f32) (harg5 : arg5.IsWhole) (arg6 : Memref sig .tc .vmem S1x2048 .f32) (harg6 : arg6.IsWhole)
    (arg7 : Memref sig .tc .vmem S1024x2048 .f32) (harg7 : arg7.IsWhole) (arg8 : Memref sig .tc .vmem S8x1024x256 .f32) (harg8 : arg8.IsWhole)
    (x0 : Vec F S1024x1024 .bf16) (x1 : Vec F S1024x2048 .bf16) (x2 : Vec F S1024x256 .f32) (x3 x4 : Vec F S1x2048 .f32)
    (o : Vec F S1024x2048 .f32) (s : Vec F S8x1024x256 .f32) :
    ∀ (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare o
            ∗ owns (c : Thread nD τ) arg8 fullShare s
            ∗ (iprop(owns (c : Thread nD τ) arg2 fullShare x0 ∗ owns (c : Thread nD τ) arg3 fullShare x1 ∗ owns (c : Thread nD τ) arg4 fullShare x2
              ∗ owns (c : Thread nD τ) arg5 fullShare x3 ∗ owns (c : Thread nD τ) arg6 fullShare x4
              ∗ owns (c : Thread nD τ) arg7 fullShare (lastOut x0 x1 o (put (i 1) x2 s) x3)
              ∗ owns (c : Thread nD τ) arg8 fullShare (put (i 1) x2 s)) -∗ K ⟨⟩))
          ⊢ wp frame (wpE (defs₀ (F := F)) Variants.none c none) E (cc0_ffn_out i arg2 harg2 arg3 harg3 arg4 harg4 arg5 harg5 arg6 harg6 arg7 harg7 arg8 harg8) K := by
  intro E K
  have hc1 : ¬ (k0_cond1 i = 1#1) := fun h => by have := (conds i).1.1 h; omega
  have hc2 : ¬ (k0_cond2 i = 1#1) := fun h => by have := (conds i).2.1.1 h; omega
  have hc3 : k0_cond3 i = 1#1 := (conds i).2.2.2 hi
  simp only [cc0_ffn_out_eq_skeleton]; unfold cc0_ffn_out_skel
  simp only [dif_neg hc1, dif_neg hc2, dif_pos hc3]
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; swap; · iexact H5
    ipureintro
    funext y
    have hX : ∀ inb, arg8.view.read (Elt F) (arg8.view.writes (Elt F) (harg8.unread s)
        [⟨Rect.unit (s := S8x1024x256) (k0_off1 i) S1x1024x256.size inb, k0_pay1 (View.readAt (Elt F) arg4.view
          (Rect.unit (s := S1024x256) ![0, 0] S1024x256.size inb_S1024x256_S1024x256_0_0).toLoadRect (harg4.unread x2))⟩]) = put (i 1) x2 s := by
      intro inb
      rw [scratch_read, show View.readAt (Elt F) arg4.view (Rect.unit (s := S1024x256) ![0, 0] S1024x256.size inb_S1024x256_S1024x256_0_0).toLoadRect
        (harg4.unread x2) = x2 from (View.readAt_full _ _ _).trans (harg4.read_unread _), harg8.read_unread]
    sl_open_run
    simp only [k0_pay43, pay4_eq, pay5_eq]
    refine View.read_writes_apply_of_pieces _ _ (lastOut x0 x1 o (put (i 1) x2 s) x3) _ ?_ y ?_
    · iterate 32
        (refine List.forall_mem_cons.2 ⟨fun x => ?_, ?_⟩
         · refine piece x0 x1 o (put (i 1) x2 s) x3 _ _ ?_ ?_ ?_ ?_ _ _ _ _ _ ?_ ?_ ?_ ?_ ?_ ?_ _ _ _ _ _ x
           · decide
           · decide
           · decide
           · decide
           · refine rows_read arg2 harg2 x0 _ ?_ ?_ _ <;> decide
           · exact (View.readAt_full _ _ _).trans (harg3.read_unread _)
           · refine rows_read arg7 harg7 o _ ?_ ?_ _ <;> decide
           · refine slab_read arg8 _ _ (hX _) _ _ _ ?_ ?_ ?_ _ <;> decide
           · refine gain_read arg5 harg5 x3 _ ?_ _; decide
           · decide)
      exact List.forall_mem_nil _
    · have hb : (y 0).val / 256 * 8 + (y 1).val / 256 < 32 := by
        have h0 : (y 0).val < 1024 := (y 0).isLt
        have h1 : (y 1).val < 2048 := (y 1).isLt
        omega
      iterate 32 refine cover_cons _ _ _ rfl rfl rfl (by decide) _ _ _ y fun _ => ?_
      exfalso
      clear hX
      generalize (y 0).val / 256 * 8 + (y 1).val / 256 = n at *
      interval_cases n <;> contradiction
  iexists _; isplitr; swap; · iexact H6
  ipureintro
  refine (scratch_read i arg8 _ _ _).trans ?_
  rw [show View.readAt (Elt F) arg4.view (Rect.unit (s := S1024x256) ![0, 0] S1024x256.size inb_S1024x256_S1024x256_0_0).toLoadRect
    (harg4.unread x2) = x2 from (View.readAt_full _ _ _).trans (harg4.read_unread _), harg8.read_unread]

end Cert.FfnOut6

end
-- ==== Proof.OutFlow6.lean ====
/- The pipeline around the feed-forward part's second call, second batch: eight partial products per block of rows, the residual's blocks kept
   aside meanwhile, and the block's result at the eighth. -/
module

public import proofs.«01_k».proof.Proof.OutRun6
public import Idealize.ShloMosaic.Lib.Claim

@[expose] public section

set_option maxRecDepth 16384

noncomputable section

namespace Cert.FfnOut6

open Cert.Kernel6Ideal Cert.Kernel6Ideal.Gen
open Cert.FfnOut (lastOut put)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The second grid coordinate is the step within a block of rows. -/
theorem coord_1 : ∀ t : Fin cfg0.N, (grid0.coords t 1).val = t.val % 8 := by decide +kernel

/-- The residual's blocks of a block of rows, one per step. -/
def slabs (c : Dev nD) (b : ℕ) : Vec F S8x1024x256 .f32 := fun y =>
  iblk m c 2 ⟨(b * 8 + (y 0).val) % 128, Nat.mod_lt _ (by decide)⟩ (ix2 (y 1) (y 2))

/-- The result's buffer after a point. -/
def outN (c : Dev nD) : (n : ℕ) → n < 128 → Vec F S1024x2048 .f32
  | 0, h => Kernel5Ideal.Gen.k0_pay2 (iblk m c 0 ⟨0, h⟩) (iblk m c 1 ⟨0, h⟩)
  | n + 1, h =>
    if (n + 1) % 8 = 0 then Kernel5Ideal.Gen.k0_pay2 (iblk m c 0 ⟨n + 1, h⟩) (iblk m c 1 ⟨n + 1, h⟩)
    else if (n + 1) % 8 = 7 then
      lastOut (iblk m c 0 ⟨n + 1, h⟩) (iblk m c 1 ⟨n + 1, h⟩) (outN c n (by omega)) (slabs m c ((n + 1) / 8)) (iblk m c 3 ⟨n + 1, h⟩)
    else Kernel5Ideal.Gen.k0_pay3 (outN c n (by omega)) (iblk m c 0 ⟨n + 1, h⟩) (iblk m c 1 ⟨n + 1, h⟩)

theorem outN_first (c : Dev nD) (t : Fin cfg0.N) (h : t.val % 8 = 0) :
    outN m c t.val t.isLt = Kernel5Ideal.Gen.k0_pay2 (iblk m c 0 t) (iblk m c 1 t) := by
  obtain ⟨n, hn⟩ := t
  cases n with
  | zero => rfl
  | succ n => exact if_pos h

theorem outN_last (c : Dev nD) (t : Fin cfg0.N) (h : t.val % 8 = 7) :
    outN m c t.val t.isLt = lastOut (iblk m c 0 t) (iblk m c 1 t) (outN m c (t.val - 1) (Nat.lt_of_le_of_lt (Nat.sub_le _ _) t.isLt))
      (slabs m c (t.val / 8)) (iblk m c 3 t) := by
  obtain ⟨n, hn⟩ := t
  cases n with
  | zero => exact absurd (show 0 = 7 from h) (by decide)
  | succ n =>
    have h : (n + 1) % 8 = 7 := h
    exact (if_neg (by omega)).trans (if_pos h)

theorem outN_mid (c : Dev nD) (t : Fin cfg0.N) (h : t.val % 8 ≠ 0) (h7 : t.val % 8 ≠ 7) :
    outN m c t.val t.isLt = Kernel5Ideal.Gen.k0_pay3 (outN m c (t.val - 1) (Nat.lt_of_le_of_lt (Nat.sub_le _ _) t.isLt)) (iblk m c 0 t) (iblk m c 1 t) := by
  obtain ⟨n, hn⟩ := t
  cases n with
  | zero => exact absurd rfl h
  | succ n => exact (if_neg h).trans (if_neg h7)

/-- The residual's buffer as the kernel's memory. -/
abbrev scM : Memref sig .tc .vmem S8x1024x256 .f32 := Memref.whole cc0_scratch0

/-- The pipeline's own buffers are the residual's and the random generator's register. -/
theorem PhiA_eq (c : Dev nD) :
    (Pipeline.ΦA spec0 c : sProp 𝕄) = iprop((∃ d, owns (c : Thread nD τ) scM fullShare d) ∗ (∃ r, prngReg c r)) := by
  unfold Pipeline.ΦA; rw [scopedRest0_eq]; simp only [scM, owns_whole]; try rfl

/-- Before point `n` the residual's buffer holds the row block's blocks of the steps done. -/
def inv (c : Dev nD) (n : ℕ) : sProp 𝕄 :=
  iprop((∃ d : Vec F S8x1024x256 .f32, ⌜∀ y, (y 0).val < n % 8 → d y = slabs m c (n / 8) y⌝ ∗ owns (c : Thread nD τ) scM fullShare d)
    ∗ (∃ r, prngReg c r))

/-- The pipeline's data: the arrays as the region finds them, each input's buffer left as fetched, the result's at `outN`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outN m c t.val t.isLt
  Φ t := inv m c t.val
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outN m c t.val t.isLt := by dsimp only [dats]

/-- Every point stores into the result's buffer. -/
theorem idle_5 (i : grid0.Coords) : cfg0.idle 5 i = false := by
  show (!(k0_cond1 i == 1#1) && !(k0_cond2 i == 1#1) && !(k0_cond3 i == 1#1)) = false
  have hk : (i 1).val < 8 := (i 1).isLt
  by_cases h0 : (i 1).val = 0
  · rw [(conds i).1.2 h0]; rfl
  by_cases h7 : (i 1).val = 7
  · rw [(conds i).2.2.2 h7]; exact Bool.and_false _
  · rw [(conds i).2.1.2 (by omega)]; rw [show (!(1#1 == 1#1)) = false from rfl, Bool.and_false]; rfl

/-- Each input's buffer holds its block whenever the body runs. -/
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

/-- The result's buffer, past a row block's first step, holds what the step before left. -/
theorem before_5 (c : Dev nD) (t : Fin cfg0.N) (h : t.val % 8 ≠ 0) (d) :
    (dats m 0 c).before 5 t d = outN m c (t.val - 1) (Nat.lt_of_le_of_lt (Nat.sub_le _ _) t.isLt) := by
  rw [(dats m 0 c).before_out_kept 5 rfl t (fun h0 => h (by omega)) ?_ idle_5 (fun _ _ => rfl) d, after_5]
  refine Bool.eq_false_iff.2 fun hf => ?_
  have := (flush0_5 _).1 hf
  dsimp only at this
  omega

/-- A store of the step's block keeps the invariant. -/
theorem put_inv (c : Dev nD) (t : Fin cfg0.N) (s : Vec F S8x1024x256 .f32) (hs : ∀ y, (y 0).val < t.val % 8 → s y = slabs m c (t.val / 8) y)
    (y : S8x1024x256.Idx) (hy : (y 0).val ≤ t.val % 8) : put (grid0.coords t 1) (iblk m c 2 t) s y = slabs m c (t.val / 8) y := by
  have ht : t.val < 128 := t.isLt
  unfold put
  rw [coord_1]
  by_cases h : (y 0).val = t.val % 8
  · rw [if_pos h]
    unfold slabs
    have e : (⟨(t.val / 8 * 8 + (y 0).val) % 128, Nat.mod_lt _ (by decide)⟩ : Fin cfg0.N) = t := Fin.ext (by
      show (t.val / 8 * 8 + (y 0).val) % 128 = t.val; omega)
    rw [e]
  · rw [if_neg h]
    exact hs y (by omega)

/-- The invariant after a point's store. -/
theorem inv_succ (c : Dev nD) (t : Fin cfg0.N) (s : Vec F S8x1024x256 .f32) (hs : ∀ y, (y 0).val < t.val % 8 → s y = slabs m c (t.val / 8) y)
    (y : S8x1024x256.Idx) (hy : (y 0).val < (t.val + 1) % 8) :
    put (grid0.coords t 1) (iblk m c 2 t) s y = slabs m c ((t.val + 1) / 8) y := by
  have e : (t.val + 1) / 8 = t.val / 8 := by omega
  rw [e]
  exact put_inv m c t s hs y (by omega)

/-- At the last step the residual's buffer is full. -/
theorem put_last (c : Dev nD) (t : Fin cfg0.N) (h : t.val % 8 = 7) (s : Vec F S8x1024x256 .f32)
    (hs : ∀ y, (y 0).val < t.val % 8 → s y = slabs m c (t.val / 8) y) :
    put (grid0.coords t 1) (iblk m c 2 t) s = slabs m c (t.val / 8) :=
  funext fun y => put_inv m c t s hs y (by have : (y 0).val < 8 := (y 0).isLt; omega)

/-- What the body is handed at a point, window by window. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- What it hands back. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

set_option maxHeartbeats 1600000 in
/-- The body at a point, from the three runs. -/
theorem sound_body (c : Dev nD) (t : Fin cfg0.N) :
    bodyPre m c t ⊢ wp frame (wpE (defs₀ (F := F)) Variants.none c none) Set.univ (bodyAt0 (F := F) t) (fun _ => bodyPost m c t) := by
  unfold bodyPre bodyPost bodyAt0
  simp only [before_0, before_1, before_2, before_3, before_4]
  rw [show (dats m 0 c).Φ t.succ = inv m c (t.val + 1) from rfl, show (dats m 0 c).Φ t.castSucc = inv m c t.val from rfl,
    show (dats m 0 c).owesAt () t.succ = (dats m 0 c).owesAt () t.castSucc from rfl,
    after_0, after_1, after_2, after_3, after_4, after_5]
  unfold inv
  have hk := coord_1 t
  by_cases h0 : t.val % 8 = 0
  · rw [outN_first m c t h0]
    iintro ⟨⟨⟨%s, %hs, HS⟩, Hg⟩, Ho, ⟨%d0, H0⟩, ⟨%d1, H1⟩, ⟨%d2, H2⟩, ⟨%d3, H3⟩, ⟨%d4, H4⟩, ⟨%d5, H5⟩⟩
    iapply (run_first c (grid0.coords t) (hk.trans h0) _ _ _ _ _ _ _ _ _ _ _ _ _ _ (iblk m c 0 t) (iblk m c 1 t) (iblk m c 2 t) (iblk m c 3 t) (iblk m c 4 t) _ s Set.univ _)
    isplitl [H0]; · iexact H0
    isplitl [H1]; · iexact H1
    isplitl [H2]; · iexact H2
    isplitl [H3]; · iexact H3
    isplitl [H4]; · iexact H4
    isplitl [H5]; · iexact H5
    isplitl [HS]; · iexact HS
    iintro ⟨H0, H1, H2, H3, H4, H5, HS⟩
    isplitl [HS Hg]
    · isplitl [HS]
      · iexists _; isplitr; swap; · iexact HS
        ipureintro; exact inv_succ m c t s hs
      iexact Hg
    isplitl [Ho]; · iexact Ho
    isplitl [H0]; · iexact H0
    isplitl [H1]; · iexact H1
    isplitl [H2]; · iexact H2
    isplitl [H3]; · iexact H3
    isplitl [H4]; · iexact H4
    iexact H5
  · simp only [before_5 m c t h0]
    by_cases h7 : t.val % 8 = 7
    · rw [outN_last m c t h7]
      iintro ⟨⟨⟨%s, %hs, HS⟩, Hg⟩, Ho, ⟨%d0, H0⟩, ⟨%d1, H1⟩, ⟨%d2, H2⟩, ⟨%d3, H3⟩, ⟨%d4, H4⟩, ⟨%d5, H5⟩⟩
      iapply (run_last c (grid0.coords t) (hk.trans h7) _ _ _ _ _ _ _ _ _ _ _ _ _ _ (iblk m c 0 t) (iblk m c 1 t) (iblk m c 2 t) (iblk m c 3 t) (iblk m c 4 t) _ s Set.univ _)
      rw [put_last m c t h7 s hs]
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]
        · iexists _; isplitr; swap; · iexact HS
          ipureintro; intro y hy; omega
        iexact Hg
      isplitl [Ho]; · iexact Ho
      isplitl [H0]; · iexact H0
      isplitl [H1]; · iexact H1
      isplitl [H2]; · iexact H2
      isplitl [H3]; · iexact H3
      isplitl [H4]; · iexact H4
      iexact H5
    · rw [outN_mid m c t h0 h7]
      iintro ⟨⟨⟨%s, %hs, HS⟩, Hg⟩, Ho, ⟨%d0, H0⟩, ⟨%d1, H1⟩, ⟨%d2, H2⟩, ⟨%d3, H3⟩, ⟨%d4, H4⟩, ⟨%d5, H5⟩⟩
      iapply (run_mid c (grid0.coords t) (by rw [hk]; omega) _ _ _ _ _ _ _ _ _ _ _ _ _ _ (iblk m c 0 t) (iblk m c 1 t) (iblk m c 2 t) (iblk m c 3 t) (iblk m c 4 t) _ s Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      isplitl [HS Hg]
      · isplitl [HS]
        · iexists _; isplitr; swap; · iexact HS
          ipureintro; exact inv_succ m c t s hs
        iexact Hg
      isplitl [Ho]; · iexact Ho
      isplitl [H0]; · iexact H0
      isplitl [H1]; · iexact H1
      isplitl [H2]; · iexact H2
      isplitl [H3]; · iexact H3
      isplitl [H4]; · iexact H4
      iexact H5

/-- The body the pipeline calls at a point. -/
theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := F)) Variants.none () Set.univ := fun t => by
  rw [bigSep_W0, bigSep_W0, defs₀_row]
  have e : idle0 5 (grid0.coords t) = false := idle_5 _
  simp only [e]
  exact triple_restated (sound_body m c t) rfl .rfl fun _ => .rfl

/-- Nothing is known of the residual's buffer before the first point. -/
theorem inv_in (c : Dev nD) : (Pipeline.ΦA spec0 c : sProp 𝕄) ⊢ (dats m 0 c).Φ 0 := by
  rw [show (dats m 0 c).Φ 0 = inv m c 0 from rfl, PhiA_eq]
  unfold inv
  iintro ⟨⟨%d, HS⟩, Hg⟩
  isplitl [HS]
  · iexists d; isplitr; swap; · iexact HS
    ipureintro; intro y hy; exact absurd hy (Nat.not_lt_zero _)
  iexact Hg

/-- Nor asked after the last. -/
theorem inv_out (c : Dev nD) : (dats m 0 c).Φ (Fin.last cfg0.N) ⊢ (Pipeline.ΦA spec0 c : sProp 𝕄) := by
  rw [show (dats m 0 c).Φ (Fin.last cfg0.N) = inv m c 128 from rfl, PhiA_eq]
  unfold inv
  iintro ⟨⟨%d, -, HS⟩, Hg⟩
  isplitl [HS]
  · iexists d; iexact HS
  iexact Hg

/-- Every execution ends, with the arrays at what the pipeline's data say and all semaphores at zero. -/
theorem run_main : θ_run defs (onTc (τ := τ) (main (F := F))) (s₀ m ρ)
    (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := inv_in m) (hout := inv_out m)

/-- The frame: the arguments end unchanged and all semaphores are at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

/-- The result array is the output window's after the last point, and the arguments are unchanged. -/
theorem run_blocks : θ_run defs (onTc (τ := τ) (main (F := F))) ⟨m, fun _ => 0, ρ⟩ fun r => ∀ c : Dev nD,
      r.2.mem ((c.tc : Thread nD τ).loc main_v4) = (dats m 0 c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨(h.1.1 c).1 5, h.2.1 c⟩) (θ_run_and (run_main m ρ) (frame m ρ))

end Cert.FfnOut6

end
-- ==== Proof.OutSame6.lean ====
/- The feed-forward part's second call, second batch: the program as compiled is its idealization, word for word, so it has the
   idealization's frame. -/
module

public import proofs.«01_k».proof.Proof.OutFlow6
public import proofs.«01_k».proof.Proof.Gen.Kernel6.Frame

@[expose] public section

set_option maxRecDepth 65536

noncomputable section

namespace Cert.FfnOut6.Same

open Cert.Kernel6 Cert.Kernel6.Gen Cert.Kernel6Ideal.Gen
open Idealize.ShloMosaic Idealize.ShloMosaic.TcCoe Idealize.SL.Sem

variable {F : FTy → Type} [FloatOps F]

/-- The two programs call one body … -/
theorem body_eq : Cert.Kernel6.cc0_ffn_out (F := F) = Cert.Kernel6Ideal.cc0_ffn_out := rfl

/-- … from one table … -/
theorem defs₀_eq : Cert.Kernel6.defs₀ (F := F) = Cert.Kernel6Ideal.defs₀ :=
  congrArg Defs.onTc (funext fun ℓ => match ℓ with
    | ⟨0, _⟩ => funext fun ⟨t, s⟩ => rfl)

/-- … under one pipeline. -/
theorem defs_eq : Cert.Kernel6.defs (F := F) = Cert.Kernel6Ideal.defs :=
  congrArg (Pipeline.defs (Cert.Kernel6Ideal.pcfgs (F := F))) defs₀_eq

/-- The frame: the arguments end unchanged and all semaphores are at zero. -/
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  rw [defs_eq]
  exact FfnOut6.frame (F := F) m ρ

end Cert.FfnOut6.Same

end
-- ==== Proof.OutArray6.lean ====
/- The feed-forward part's second call, second batch: after its last point the result array is the reference's. -/
module

public import proofs.«01_k».proof.Proof.OutFlow6
public import proofs.«01_k».proof.Proof.OutValue
public import proofs.«01_k».proof.Proof.Gen.Reference6Ideal.Read
public import Idealize.ShloMosaic.Lib.StableHlo.Run

@[expose] public section

set_option maxRecDepth 16384

noncomputable section

namespace Cert.FfnOut6

open Cert.Kernel6Ideal Cert.Kernel6Ideal.Gen
open Cert.FfnOut (term product lastRow normed first_apply mid_apply last_apply sum_first sum_step sum_all reference_apply)
open Idealize.ShloMosaic Idealize.ShloMosaic.TcCoe

/-- Point `t` is step `t % 8` of row block `t / 8`, 32 blocks further down in the inputs. -/
theorem index_0 : ∀ t : Fin cfg0.N, win0_0.index t = ![t.val / 8 + 32, t.val % 8] := (by decide +kernel : ∀ t : Fin grid0.N, _)
theorem index_1 : ∀ t : Fin cfg0.N, win0_1.index t = ![t.val % 8, 0] := (by decide +kernel : ∀ t : Fin grid0.N, _)
theorem index_2 : ∀ t : Fin cfg0.N, win0_2.index t = ![t.val / 8 + 32, t.val % 8] := (by decide +kernel : ∀ t : Fin grid0.N, _)
theorem index_3 : ∀ t : Fin cfg0.N, win0_3.index t = ![0, 0] := (by decide +kernel : ∀ t : Fin grid0.N, _)
theorem index_5 : ∀ t : Fin cfg0.N, win0_5.index t = ![t.val / 8, 0] := (by decide +kernel : ∀ t : Fin grid0.N, _)

variable (m : (ℓ : Loc nD τ sig) → Buf (Elt Ideal) ℓ) (c : Dev nD)

/-- The hidden activations, the weights, the residual and the gain as launched. -/
abbrev Hs : FVec Ideal S49152x8192 .f32 := m ((c.tc : Thread nD τ).loc main_arg0)
abbrev Ws : FVec Ideal S8192x2048 .f32 := m ((c.tc : Thread nD τ).loc main_arg1)
abbrev Xs : FVec Ideal S49152x2048 .f32 := m ((c.tc : Thread nD τ).loc main_arg2)
abbrev Gs : FVec Ideal S2048 .f32 := m ((c.tc : Thread nD τ).loc main_arg3)

/-- The host casts the activations … -/
theorem V_h : V m c main_v0 = truncf (F := Ideal) .bf16 (Hs m c) bitsLt_bf16_f32 := by
  show StableHlo.after hostOps0 (fun b => m (c, b)) (Proc.devRef .tc main_v0) = _
  unfold hostOps0; after_results <;> rfl

/-- … and the weights … -/
theorem V_w : V m c main_v1 = truncf (F := Ideal) .bf16 (Ws m c) bitsLt_bf16_f32 := by
  show StableHlo.after hostOps0 (fun b => m (c, b)) (Proc.devRef .tc main_v1) = _
  unfold hostOps0; after_results <;> rfl

/-- … and lays the gain out as a row. -/
theorem V_g : V m c main_v2 = shapeCast S1x2048 (Gs m c) shapeCasts_S2048_S1x2048 := by
  show StableHlo.after hostOps0 (fun b => m (c, b)) (Proc.devRef .tc main_v2) = _
  unfold hostOps0; after_results <;> rfl

/-- A point's rows and inner columns. -/
theorem block_h (t : Fin cfg0.N) (p : Fin 1024) (k : Fin 1024) :
    (iblk m c 0 t (ix2 p k) : EReal) = Hs m c (ix2 ⟨(t.val / 8 + 32) * 1024 + p.val, by have : t.val < 128 := t.isLt; omega⟩ ⟨t.val % 8 * 1024 + k.val, by omega⟩) := by
  unfold iblk
  rw [View.read_apply]
  show (V m c main_v0 (((cfg0.win 0).blk t).view.emb _) : EReal) = _
  rw [V_h]
  refine congrArg (Hs m c) (funext fun a => ?_)
  match a with
  | ⟨0, _⟩ => exact Fin.ext (by blk_simp [index_0])
  | ⟨1, _⟩ => exact Fin.ext (by blk_simp [index_0])

/-- A point's inner rows of the weights. -/
theorem block_w (t : Fin cfg0.N) (k : Fin 1024) (j : Fin 2048) :
    (iblk m c 1 t (ix2 k j) : EReal) = Ws m c (ix2 ⟨t.val % 8 * 1024 + k.val, by omega⟩ j) := by
  unfold iblk
  rw [View.read_apply]
  show (V m c main_v1 (((cfg0.win 1).blk t).view.emb _) : EReal) = _
  rw [V_w]
  refine congrArg (Ws m c) (funext fun a => ?_)
  match a with
  | ⟨0, _⟩ => exact Fin.ext (by blk_simp [index_1])
  | ⟨1, _⟩ => exact Fin.ext (by blk_simp [index_1])

/-- A point's columns of the residual. -/
theorem block_x (t : Fin cfg0.N) (p : Fin 1024) (q : Fin 256) :
    (iblk m c 2 t (ix2 p q) : EReal) = Xs m c (ix2 ⟨(t.val / 8 + 32) * 1024 + p.val, by have : t.val < 128 := t.isLt; omega⟩ ⟨t.val % 8 * 256 + q.val, by omega⟩) := by
  unfold iblk
  rw [View.read_apply]
  show (V m c main_arg2 (((cfg0.win 2).blk t).view.emb _) : EReal) = _
  rw [V_main_arg2]
  refine congrArg (Xs m c) (funext fun a => ?_)
  match a with
  | ⟨0, _⟩ => exact Fin.ext (by blk_simp [index_2])
  | ⟨1, _⟩ => exact Fin.ext (by blk_simp [index_2])

/-- The gain. -/
theorem block_g (t : Fin cfg0.N) (j : Fin 2048) : (iblk m c 3 t (ix2 0 j) : EReal) = Gs m c (ix1 j) := by
  unfold iblk
  rw [View.read_apply]
  show (V m c main_v2 (((cfg0.win 3).blk t).view.emb _) : EReal) = _
  rw [V_g]
  have e : ((cfg0.win 3).blk t).view.emb (ix2 0 j) = (ix2 0 j : S1x2048.Idx) := funext fun a => by
    match a with
    | ⟨0, _⟩ => exact Fin.ext (by blk_simp [index_3])
    | ⟨1, _⟩ => exact Fin.ext (by blk_simp [index_3])
  rw [e]
  exact ValueIdx.shapeCast_a_1a_apply (Gs m c) shapeCasts_S2048_S1x2048 0 j

/-- Before a row block's last step the result's buffer holds the products of the steps done. -/
theorem partial_sum (t : Fin cfg0.N) (h7 : t.val % 8 < 7) (p : Fin 1024) (q : Fin 2048) :
    (outN m c t.val t.isLt (ix2 p q) : EReal)
      = ∑ k ∈ Finset.range ((t.val % 8 + 1) * 1024), term (Hs m c) (Ws m c) ⟨(t.val / 8 + 32) * 1024 + p.val, by have : t.val < 128 := t.isLt; omega⟩ q k := by
  obtain ⟨n, hn⟩ := t
  induction n with
  | zero =>
    rw [outN_first m c ⟨0, hn⟩ rfl, first_apply]
    simp only [block_h, block_w]
    exact sum_first (Hs m c) (Ws m c) _ q
  | succ n ih =>
    by_cases h0 : (n + 1) % 8 = 0
    · rw [outN_first m c ⟨n + 1, hn⟩ h0, first_apply]
      simp only [block_h, block_w]
      simp only [h0]
      exact sum_first (Hs m c) (Ws m c) _ q
    · have h7' : (n + 1) % 8 < 7 := h7
      rw [outN_mid m c ⟨n + 1, hn⟩ h0 (by show (n + 1) % 8 ≠ 7; omega), mid_apply]
      have := ih (Nat.lt_of_succ_lt hn) (by show n % 8 < 7; omega)
      show (outN m c n _ (ix2 p q) : EReal) + _ = _
      refine (congrArg (· + _) this).trans ?_
      simp only [block_h, block_w]
      have e1 : n % 8 + 1 = (n + 1) % 8 := by omega
      have e2 : n / 8 = (n + 1) / 8 := by omega
      simp only [e1, e2]
      exact sum_step (Hs m c) (Ws m c) _ q ((n + 1) % 8) (by omega)

/-- At a row block's last step the row is the whole product. -/
theorem last_row (t : Fin cfg0.N) (h : t.val % 8 = 7) (p : Fin 1024) (q : Fin 2048) :
    lastRow (iblk m c 0 t) (iblk m c 1 t) (outN m c (t.val - 1) (Nat.lt_of_le_of_lt (Nat.sub_le _ _) t.isLt)) p q
      = product (Hs m c) (Ws m c) ⟨(t.val / 8 + 32) * 1024 + p.val, by have : t.val < 128 := t.isLt; omega⟩ q := by
  unfold lastRow
  have ht : t.val < 128 := t.isLt
  refine (congrArg (· + _) (partial_sum m c ⟨t.val - 1, Nat.lt_of_le_of_lt (Nat.sub_le _ _) t.isLt⟩ (by show (t.val - 1) % 8 < 7; omega) p q)).trans ?_
  simp only [block_h, block_w]
  have e1 : (t.val - 1) % 8 + 1 = 7 := by omega
  have e2 : (t.val - 1) / 8 = t.val / 8 := by omega
  simp only [e1, e2, h]
  exact (sum_step (Hs m c) (Ws m c) _ q 7 (by omega)).trans (sum_all _ _ _ _)

/-- The residual's buffer at the last step, at an element. -/
theorem slabs_apply (t : Fin cfg0.N) (p : Fin 1024) (j : Fin 2048) :
    (slabs m c (t.val / 8) (ix3 ⟨j.val / 256, by omega⟩ p ⟨j.val % 256, by omega⟩) : EReal)
      = Xs m c (ix2 ⟨(t.val / 8 + 32) * 1024 + p.val, by have : t.val < 128 := t.isLt; omega⟩ j) := by
  have ht : t.val < 128 := t.isLt
  unfold slabs
  refine (block_x m c _ _ _).trans (congrArg (Xs m c) (funext fun a => ?_))
  match a with
  | ⟨0, _⟩ => exact Fin.ext (by show ((t.val / 8 * 8 + j.val / 256) % 128 / 8 + 32) * 1024 + p.val = (t.val / 8 + 32) * 1024 + p.val; omega)
  | ⟨1, _⟩ => exact Fin.ext (by show (t.val / 8 * 8 + j.val / 256) % 128 % 8 * 256 + j.val % 256 = j.val; omega)

/-- A row block's result is the reference's rows. -/
theorem out_apply (t : Fin cfg0.N) (h : t.val % 8 = 7) (p : Fin 1024) (j : Fin 2048) :
    (outN m c t.val t.isLt (ix2 p j) : EReal)
      = Reference5Ideal.Read.val_main_v14 (F := Ideal) (Hs m c) (Ws m c) (Xs m c) (Gs m c) (ix2 ⟨(t.val / 8 + 32) * 1024 + p.val, by have : t.val < 128 := t.isLt; omega⟩ j) := by
  rw [outN_last m c t h, last_apply, slabs_apply, block_g, reference_apply]
  exact congrArg (normed · j _ _) (funext fun q => last_row m c t h p q)

/-- Both references slice one array. -/
theorem reference_eq : Reference6Ideal.Read.val_main_v14 (F := Ideal) = Reference5Ideal.Read.val_main_v14 := rfl

/-- THE ARRAY: after the last point the result is the reference's. -/
theorem array_eq : (dats m 0 c).arrAt 5 cfg0.N = Reference6Ideal.Read.val_main_v15 (F := Ideal) (Hs m c) (Ws m c) (Xs m c) (Gs m c) := by
  refine (dats m 0 c).arrAt_eq_of_covers 5 _ (by decide +kernel) fun t hf y => ?_
  have h7 : t.val % 8 = 7 := (flush0_5 t).1 hf
  blk_simp
  rw [after_5]
  have ht : t.val < 128 := t.isLt
  have h0 : (y 0).val < 1024 := (y 0).isLt
  have h1 : (y 1).val < 2048 := (y 1).isLt
  have hy : y = ix2 ⟨(y 0).val, h0⟩ ⟨(y 1).val, h1⟩ := funext fun a => by
    match a with
    | ⟨0, _⟩ => rfl
    | ⟨1, _⟩ => rfl
  refine Eq.trans (b := Reference6Ideal.Read.val_main_v15 (F := Ideal) (Hs m c) (Ws m c) (Xs m c) (Gs m c)
    (ix2 ⟨t.val / 8 * 1024 + (y 0).val, by omega⟩ ⟨(y 1).val, h1⟩)) ?_ ?_
  · refine (congrArg (outN m c t.val t.isLt) hy).trans ((out_apply m c t h7 _ _).trans ?_)
    rw [Reference6Ideal.Read.val_main_v15_apply, reference_eq]
    refine congrArg (Reference5Ideal.Read.val_main_v14 (F := Ideal) (Hs m c) (Ws m c) (Xs m c) (Gs m c)) (funext fun a => ?_)
    match a with
    | ⟨0, _⟩ => exact Fin.ext (show (t.val / 8 + 32) * 1024 + (y 0).val = 32768 + (t.val / 8 * 1024 + (y 0).val) by omega)
    | ⟨1, _⟩ => rfl
  · refine congrArg (Reference6Ideal.Read.val_main_v15 (F := Ideal) (Hs m c) (Ws m c) (Xs m c) (Gs m c)) (funext fun a => ?_)
    match a with
    | ⟨0, _⟩ => exact Fin.ext (by blk_simp [index_5]; rfl)
    | ⟨1, _⟩ => exact Fin.ext (by blk_simp [index_5]; rfl)

end Cert.FfnOut6

end
-- ==== Proof.lean ====
/- The certificate: for each of the six calls the frames of the kernel, its idealization and the reference, the
   idealization's rewrites, and the kernel's result equal to the reference's. The modules under Proof/ prove the parts;
   here they are put together. -/
module

public import proofs.«01_k».proof.Defs
public import proofs.«01_k».proof.Proof.AnyFlow
public import proofs.«01_k».proof.Proof.Gen.ReferenceIdeal.Run
public import proofs.«01_k».proof.Proof.Gen.ReferenceIdeal.Read
public import proofs.«01_k».proof.Proof.Finite
public import proofs.«01_k».proof.Proof.Result
public import proofs.«01_k».proof.Proof.FfnIn
public import proofs.«01_k».proof.Proof.Gates
public import proofs.«01_k».proof.Proof.Xy
public import proofs.«01_k».proof.Proof.Gen.Kernel2.Frame
public import proofs.«01_k».proof.Proof.Gen.Kernel3.Frame
public import proofs.«01_k».proof.Proof.Gen.Kernel4.Frame
public import proofs.«01_k».proof.Proof.Gen.Reference2Ideal.Run
public import proofs.«01_k».proof.Proof.Gen.Reference3Ideal.Run
public import proofs.«01_k».proof.Proof.Gen.Reference4Ideal.Run
public import proofs.«01_k».proof.Proof.OutSame
public import proofs.«01_k».proof.Proof.OutArray
public import proofs.«01_k».proof.Proof.Gen.Reference5Ideal.Run
public import proofs.«01_k».proof.Proof.OutSame6
public import proofs.«01_k».proof.Proof.OutArray6
public import proofs.«01_k».proof.Proof.Gen.Reference6Ideal.Run
public import Idealize.ShloMosaic.Adequacy
public import Idealize.ShloMosaic.Init

@[expose] public section

noncomputable section

namespace Cert.Proof

open Idealize.ShloMosaic Idealize.ShloMosaic.TcCoe Idealize.SL.Sem

/-- The reference's frame: its run read at the arguments; it declares no semaphore. -/
theorem reference_frame (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
        ∧ r.2.sem = fun _ => 0) :=
  (θ_run Cert.ReferenceIdeal.defs _ _).mono (fun r h => ⟨fun c => (h c).2, sem_eq_zero_of_no_sems (by decide) r.2⟩)
    (Cert.ReferenceIdeal.Value.run (F := Ideal) m ρ)

/-- The values agree: the kernel's array is the reference's value of the launched arguments (`Result.array_eq`, the queries
    and the keys real by the precondition), and the reference's run ends with that value. -/
theorem algebraic : Cert.algebraic_KernelIdeal_ReferenceIdeal_pre_finite_q_k
    (hKernelIdeal := Cert.KernelIdeal.Gen.facts) (hReferenceIdeal := Cert.ReferenceIdeal.Gen.facts) (hPre_finite_q_k := Finite.facts) := by
  intro m g m' g' hpre hagree
  refine ⟨fun c => (Flow.dats m 0 c).arrAt 3 Cert.KernelIdeal.cfg0.N, Flow.run_blocks m g, ?_⟩
  refine (θ_run Cert.ReferenceIdeal.defs _ _).mono (fun _ h c => ⟨(h c).1.trans ?_, (h c).2⟩)
    (Cert.ReferenceIdeal.Value.run (F := Ideal) m' g')
  refine Eq.trans ?_ (Result.array_eq m c (Finite.queries m hpre c) (Finite.keys m hpre c)).symm
  have hq := (hagree c).1
  have hk := (hagree c).2.1
  have hv := (hagree c).2.2
  unfold Result.Qs Result.Ks Result.Vs
  rw [hq, hk, hv]
  exact Cert.ReferenceIdeal.Read.val_main_v20_eq (F := Ideal) _ _ _

/-- The reference of the feed-forward part's first product: its frame. -/
theorem reference2_frame (m : (ℓ : Loc Cert.Reference2Ideal.nD Cert.Reference2Ideal.τ Cert.Reference2Ideal.sig) → Buf (Elt Ideal) ℓ) (ρ : Dev Cert.Reference2Ideal.nD → PrngReg) :
    θ_run (Cert.Reference2Ideal.defs (F := Ideal)) (onTc (τ := Cert.Reference2Ideal.τ) (Cert.Reference2Ideal.main (F := Ideal))) ⟨m, fun _ => 0, ρ⟩
      (fun r => (∀ c : Dev Cert.Reference2Ideal.nD,
        r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
        ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
        ∧ r.2.sem = fun _ => 0) :=
  (θ_run Cert.Reference2Ideal.defs _ _).mono (fun r h => ⟨fun c => (h c).2, sem_eq_zero_of_no_sems (by decide) r.2⟩)
    (Cert.Reference2Ideal.Value.run (F := Ideal) m ρ)

/-- The feed-forward part's first product: the kernel's array is the reference's value (`FfnIn.array_eq`), with which the reference's run ends. -/
theorem algebraic2 : Cert.algebraic_Kernel2Ideal_Reference2Ideal
    (hKernel2Ideal := Cert.Kernel2Ideal.Gen.facts) (hReference2Ideal := Cert.Reference2Ideal.Gen.facts) := by
  intro m g m' g' _ hagree
  refine ⟨fun c => (Cert.Kernel2Ideal.Gen.dats m 0 c).arrAt 2 Cert.Kernel2Ideal.cfg0.N, ?_, ?_⟩
  · refine (θ_run Cert.Kernel2Ideal.defs _ _).mono (fun r h c => ⟨(h c).1 2, ?_, ?_⟩) (Cert.Kernel2Ideal.Gen.run_main (F := Ideal) m g)
    · exact ((h c).2 Cert.Kernel2Ideal.main_arg0 (Pipeline.mem_restRefs_of Cert.Kernel2Ideal.main_arg0 (by decide) (by decide))).trans (Cert.Kernel2Ideal.Gen.V_main_arg0 m c)
    · exact ((h c).2 Cert.Kernel2Ideal.main_arg1 (Pipeline.mem_restRefs_of Cert.Kernel2Ideal.main_arg1 (by decide) (by decide))).trans (Cert.Kernel2Ideal.Gen.V_main_arg1 m c)
  refine (θ_run Cert.Reference2Ideal.defs _ _).mono (fun _ h c => ⟨(h c).1.trans ?_, (h c).2⟩)
    (Cert.Reference2Ideal.Value.run (F := Ideal) m' g')
  refine Eq.trans ?_ (FfnIn.array_eq m c).symm
  unfold FfnIn.Hs FfnIn.Ws
  rw [(hagree c).1, (hagree c).2]
  exact Cert.Reference2Ideal.Read.val_main_v3_eq (F := Ideal) _ _

/-- The reference of the gates: its frame. -/
theorem reference3_frame (m : (ℓ : Loc Cert.Reference3Ideal.nD Cert.Reference3Ideal.τ Cert.Reference3Ideal.sig) → Buf (Elt Ideal) ℓ) (ρ : Dev Cert.Reference3Ideal.nD → PrngReg) :
    θ_run (Cert.Reference3Ideal.defs (F := Ideal)) (onTc (τ := Cert.Reference3Ideal.τ) (Cert.Reference3Ideal.main (F := Ideal))) ⟨m, fun _ => 0, ρ⟩
      (fun r => (∀ c : Dev Cert.Reference3Ideal.nD,
        r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
        ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
        ∧ r.2.sem = fun _ => 0) :=
  (θ_run Cert.Reference3Ideal.defs _ _).mono (fun r h => ⟨fun c => (h c).2, sem_eq_zero_of_no_sems (by decide) r.2⟩)
    (Cert.Reference3Ideal.Value.run (F := Ideal) m ρ)

/-- The gates: the kernel's array is the reference's value (`Gates.array_eq`), with which the reference's run ends. -/
theorem algebraic3 : Cert.algebraic_Kernel3Ideal_Reference3Ideal
    (hKernel3Ideal := Cert.Kernel3Ideal.Gen.facts) (hReference3Ideal := Cert.Reference3Ideal.Gen.facts) := by
  intro m g m' g' _ hagree
  refine ⟨fun c => (Cert.Kernel3Ideal.Gen.dats m 0 c).arrAt 2 Cert.Kernel3Ideal.cfg0.N, ?_, ?_⟩
  · refine (θ_run Cert.Kernel3Ideal.defs _ _).mono (fun r h c => ⟨(h c).1 2, ?_, ?_⟩) (Cert.Kernel3Ideal.Gen.run_main (F := Ideal) m g)
    · exact ((h c).2 Cert.Kernel3Ideal.main_arg0 (Pipeline.mem_restRefs_of Cert.Kernel3Ideal.main_arg0 (by decide) (by decide))).trans (Cert.Kernel3Ideal.Gen.V_main_arg0 m c)
    · exact ((h c).2 Cert.Kernel3Ideal.main_arg1 (Pipeline.mem_restRefs_of Cert.Kernel3Ideal.main_arg1 (by decide) (by decide))).trans (Cert.Kernel3Ideal.Gen.V_main_arg1 m c)
  refine (θ_run Cert.Reference3Ideal.defs _ _).mono (fun _ h c => ⟨(h c).1.trans ?_, (h c).2⟩)
    (Cert.Reference3Ideal.Value.run (F := Ideal) m' g')
  refine Eq.trans ?_ (Gates.array_eq m c).symm
  unfold Gates.Hs Gates.Ws
  rw [(hagree c).1, (hagree c).2]
  exact Cert.Reference3Ideal.Read.val_main_v7_eq (F := Ideal) _ _

/-- The reference of the recurrence's two projections: its frame. -/
theorem reference4_frame (m : (ℓ : Loc Cert.Reference4Ideal.nD Cert.Reference4Ideal.τ Cert.Reference4Ideal.sig) → Buf (Elt Ideal) ℓ) (ρ : Dev Cert.Reference4Ideal.nD → PrngReg) :
    θ_run (Cert.Reference4Ideal.defs (F := Ideal)) (onTc (τ := Cert.Reference4Ideal.τ) (Cert.Reference4Ideal.main (F := Ideal))) ⟨m, fun _ => 0, ρ⟩
      (fun r => (∀ c : Dev Cert.Reference4Ideal.nD,
        r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
        ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
        ∧ r.2.sem = fun _ => 0) :=
  (θ_run Cert.Reference4Ideal.defs _ _).mono (fun r h => ⟨fun c => (h c).2, sem_eq_zero_of_no_sems (by decide) r.2⟩)
    (Cert.Reference4Ideal.Value.run (F := Ideal) m ρ)

/-- The recurrence's two projections: the kernel's array is the reference's value (`Xy.array_eq`), with which the reference's run ends. -/
theorem algebraic4 : Cert.algebraic_Kernel4Ideal_Reference4Ideal
    (hKernel4Ideal := Cert.Kernel4Ideal.Gen.facts) (hReference4Ideal := Cert.Reference4Ideal.Gen.facts) := by
  intro m g m' g' _ hagree
  refine ⟨fun c => (Cert.Kernel4Ideal.Gen.dats m 0 c).arrAt 2 Cert.Kernel4Ideal.cfg0.N, ?_, ?_⟩
  · refine (θ_run Cert.Kernel4Ideal.defs _ _).mono (fun r h c => ⟨(h c).1 2, ?_, ?_⟩) (Cert.Kernel4Ideal.Gen.run_main (F := Ideal) m g)
    · exact ((h c).2 Cert.Kernel4Ideal.main_arg0 (Pipeline.mem_restRefs_of Cert.Kernel4Ideal.main_arg0 (by decide) (by decide))).trans (Cert.Kernel4Ideal.Gen.V_main_arg0 m c)
    · exact ((h c).2 Cert.Kernel4Ideal.main_arg1 (Pipeline.mem_restRefs_of Cert.Kernel4Ideal.main_arg1 (by decide) (by decide))).trans (Cert.Kernel4Ideal.Gen.V_main_arg1 m c)
  refine (θ_run Cert.Reference4Ideal.defs _ _).mono (fun _ h c => ⟨(h c).1.trans ?_, (h c).2⟩)
    (Cert.Reference4Ideal.Value.run (F := Ideal) m' g')
  refine Eq.trans ?_ (Xy.array_eq m c).symm
  unfold Xy.Hs Xy.Ws
  rw [(hagree c).1, (hagree c).2]
  exact Cert.Reference4Ideal.Read.val_main_v1_eq (F := Ideal) _ _

/-- The reference of the feed-forward part's second product, first batch: its frame. -/
theorem reference5_frame (m : (ℓ : Loc Cert.Reference5Ideal.nD Cert.Reference5Ideal.τ Cert.Reference5Ideal.sig) → Buf (Elt Ideal) ℓ) (ρ : Dev Cert.Reference5Ideal.nD → PrngReg) :
    θ_run (Cert.Reference5Ideal.defs (F := Ideal)) (onTc (τ := Cert.Reference5Ideal.τ) (Cert.Reference5Ideal.main (F := Ideal))) ⟨m, fun _ => 0, ρ⟩
      (fun r => (∀ c : Dev Cert.Reference5Ideal.nD,
        r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
        ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
        ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
        ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
        ∧ r.2.sem = fun _ => 0) :=
  (θ_run Cert.Reference5Ideal.defs _ _).mono (fun r h => ⟨fun c => (h c).2, sem_eq_zero_of_no_sems (by decide) r.2⟩)
    (Cert.Reference5Ideal.Value.run (F := Ideal) m ρ)

/-- The feed-forward part's second product, first batch: the kernel's array is the reference's value (`FfnOut.array_eq`), with
    which the reference's run ends. -/
theorem algebraic5 : Cert.algebraic_Kernel5Ideal_Reference5Ideal
    (hKernel5Ideal := Cert.Kernel5Ideal.Gen.facts) (hReference5Ideal := Cert.Reference5Ideal.Gen.facts) := by
  intro m g m' g' _ hagree
  refine ⟨fun c => (FfnOut.dats m 0 c).arrAt 5 Cert.Kernel5Ideal.cfg0.N, FfnOut.run_blocks m g, ?_⟩
  refine (θ_run Cert.Reference5Ideal.defs _ _).mono (fun _ h c => ⟨(h c).1.trans ?_, (h c).2⟩)
    (Cert.Reference5Ideal.Value.run (F := Ideal) m' g')
  refine Eq.trans ?_ (FfnOut.array_eq m c).symm
  unfold FfnOut.Hs FfnOut.Ws FfnOut.Xs FfnOut.Gs
  rw [(hagree c).1, (hagree c).2.1, (hagree c).2.2.1, (hagree c).2.2.2]
  exact Cert.Reference5Ideal.Read.val_main_v15_eq (F := Ideal) _ _ _ _

/-- The reference of the feed-forward part's second product, second batch: its frame. -/
theorem reference6_frame (m : (ℓ : Loc Cert.Reference6Ideal.nD Cert.Reference6Ideal.τ Cert.Reference6Ideal.sig) → Buf (Elt Ideal) ℓ) (ρ : Dev Cert.Reference6Ideal.nD → PrngReg) :
    θ_run (Cert.Reference6Ideal.defs (F := Ideal)) (onTc (τ := Cert.Reference6Ideal.τ) (Cert.Reference6Ideal.main (F := Ideal))) ⟨m, fun _ => 0, ρ⟩
      (fun r => (∀ c : Dev Cert.Reference6Ideal.nD,
        r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
        ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
        ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
        ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
        ∧ r.2.sem = fun _ => 0) :=
  (θ_run Cert.Reference6Ideal.defs _ _).mono (fun r h => ⟨fun c => (h c).2, sem_eq_zero_of_no_sems (by decide) r.2⟩)
    (Cert.Reference6Ideal.Value.run (F := Ideal) m ρ)

/-- The feed-forward part's second product, second batch: the kernel's array is the reference's value (`FfnOut6.array_eq`), with
    which the reference's run ends. -/
theorem algebraic6 : Cert.algebraic_Kernel6Ideal_Reference6Ideal
    (hKernel6Ideal := Cert.Kernel6Ideal.Gen.facts) (hReference6Ideal := Cert.Reference6Ideal.Gen.facts) := by
  intro m g m' g' _ hagree
  refine ⟨fun c => (FfnOut6.dats m 0 c).arrAt 5 Cert.Kernel6Ideal.cfg0.N, FfnOut6.run_blocks m g, ?_⟩
  refine (θ_run Cert.Reference6Ideal.defs _ _).mono (fun _ h c => ⟨(h c).1.trans ?_, (h c).2⟩)
    (Cert.Reference6Ideal.Value.run (F := Ideal) m' g')
  refine Eq.trans ?_ (FfnOut6.array_eq m c).symm
  unfold FfnOut6.Hs FfnOut6.Ws FfnOut6.Xs FfnOut6.Gs
  rw [(hagree c).1, (hagree c).2.1, (hagree c).2.2.1, (hagree c).2.2.2]
  exact Cert.Reference6Ideal.Read.val_main_v15_eq (F := Ideal) _ _ _ _

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Finite.facts,
    fun m ρ _ => Cert.Kernel.Any.frame m ρ,
    fun m ρ _ => Flow.frame m ρ,
    fun m ρ _ => Flow.frame m ρ,
    fun m ρ _ => reference_frame m ρ,
    fun m ρ _ => reference_frame m ρ,
    fun m ρ _ => Cert.Kernel2.Gen.frame m ρ, fun m ρ _ => Cert.Kernel2Ideal.Gen.frame m ρ, fun m ρ _ => reference2_frame m ρ,
    fun m ρ _ => Cert.Kernel3.Gen.frame m ρ, fun m ρ _ => Cert.Kernel3Ideal.Gen.frame m ρ, fun m ρ _ => reference3_frame m ρ,
    fun m ρ _ => Cert.Kernel4.Gen.frame m ρ, fun m ρ _ => Cert.Kernel4Ideal.Gen.frame m ρ, fun m ρ _ => reference4_frame m ρ,
    fun m ρ _ => FfnOut.Same.frame m ρ, fun m ρ _ => FfnOut.frame m ρ, fun m ρ _ => reference5_frame m ρ,
    fun m ρ _ => FfnOut6.Same.frame m ρ, fun m ρ _ => FfnOut6.frame m ρ, fun m ρ _ => reference6_frame m ρ,
    IdealRules.named_const.statement Cert.KernelIdeal.κ "mask" .f32 0xF149F2CA#32 ⊥ rfl,
    algebraic,
    trivial, algebraic2, trivial, algebraic3, trivial, algebraic4, trivial, algebraic5, trivial, algebraic6⟩

end Cert.Proof

end
